-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "unselected" .f32 0xF1800000#32 ⊥
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x8192x12x128 : Shape := ⟨4, ![4, 8192, 12, 128]⟩
abbrev S4x8192x3x128 : Shape := ⟨4, ![4, 8192, 3, 128]⟩
abbrev S4x3x8192x128 : Shape := ⟨4, ![4, 3, 8192, 128]⟩
abbrev S4x12x8192x128 : Shape := ⟨4, ![4, 12, 8192, 128]⟩
abbrev S4x8192x36 : Shape := ⟨3, ![4, 8192, 36]⟩
abbrev S8192x128 : Shape := ⟨2, ![8192, 128]⟩
abbrev S_ : Shape := ⟨0, ![]⟩
abbrev S4x3x8192x256 : Shape := ⟨4, ![4, 3, 8192, 256]⟩
abbrev S4x3x1x8192x256 : Shape := ⟨5, ![4, 3, 1, 8192, 256]⟩
abbrev S4x3x2x8192x256 : Shape := ⟨5, ![4, 3, 2, 8192, 256]⟩
abbrev S4x8192x3x12 : Shape := ⟨4, ![4, 8192, 3, 12]⟩
abbrev S512x512 : Shape := ⟨2, ![512, 512]⟩
abbrev S1x512x512 : Shape := ⟨3, ![1, 512, 512]⟩
abbrev S3x512x512 : Shape := ⟨3, ![3, 512, 512]⟩
abbrev S4x8192x1536 : Shape := ⟨3, ![4, 8192, 1536]⟩
abbrev S1x4x512x128 : Shape := ⟨4, ![1, 4, 512, 128]⟩
abbrev S1x1x1x8192x256 : Shape := ⟨5, ![1, 1, 1, 8192, 256]⟩
abbrev S1x1x1x512x256 : Shape := ⟨5, ![1, 1, 1, 512, 256]⟩
abbrev S1x1x512x128 : Shape := ⟨4, ![1, 1, 512, 128]⟩
abbrev S2048x256 : Shape := ⟨2, ![2048, 256]⟩
abbrev S2048x512 : Shape := ⟨2, ![2048, 512]⟩
abbrev S2x2048x128 : Shape := ⟨3, ![2, 2048, 128]⟩
abbrev S2x2048x256 : Shape := ⟨3, ![2, 2048, 256]⟩
abbrev S4x512x128 : Shape := ⟨3, ![4, 512, 128]⟩
abbrev S2048x128 : Shape := ⟨2, ![2048, 128]⟩
abbrev S512x128 : Shape := ⟨2, ![512, 128]⟩
abbrev S512x256 : Shape := ⟨2, ![512, 256]⟩
abbrev S1x2048x128 : Shape := ⟨3, ![1, 2048, 128]⟩
abbrev S2048 : Shape := ⟨1, ![2048]⟩
abbrev S2048x1 : Shape := ⟨2, ![2048, 1]⟩
abbrev S1x2048x256 : Shape := ⟨3, ![1, 2048, 256]⟩
abbrev S4x512x512 : Shape := ⟨3, ![4, 512, 512]⟩
abbrev S512x1 : Shape := ⟨2, ![512, 1]⟩
abbrev S1x512x128 : Shape := ⟨3, ![1, 512, 128]⟩

abbrev nBuf : Space → Nat
  | .hbm => 102
  | .vmem => 27
  | .smem => 0
  | _ => 0

abbrev bufTy : (tb : Table) → Fin (tcTables nBuf tb) → BufTy
  | .hbm, ⟨0, _⟩ => ⟨S4x8192x12x128, .f32⟩
  | .hbm, ⟨1, _⟩ => ⟨S4x8192x3x128, .f32⟩
  | .hbm, ⟨2, _⟩ => ⟨S4x8192x3x128, .f32⟩
  | .hbm, ⟨3, _⟩ => ⟨S4x8192x3x128, .f32⟩
  | .hbm, ⟨4, _⟩ => ⟨S4x8192x3x128, .f32⟩
  | .hbm, ⟨5, _⟩ => ⟨S4x3x8192x128, .i32⟩
  | .hbm, ⟨6, _⟩ => ⟨S4x12x8192x128, .f32⟩
  | .hbm, ⟨7, _⟩ => ⟨S4x8192x36, .f32⟩
  | .hbm, ⟨8, _⟩ => ⟨S4x12x8192x128, .f32⟩
  | .hbm, ⟨9, _⟩ => ⟨S8192x128, .i32⟩
  | .hbm, ⟨10, _⟩ => ⟨S_, .i32⟩
  | .hbm, ⟨11, _⟩ => ⟨S_, .i32⟩
  | .hbm, ⟨12, _⟩ => ⟨S8192x128, .i32⟩
  | .hbm, ⟨13, _⟩ => ⟨S8192x128, .i32⟩
  | .hbm, ⟨14, _⟩ => ⟨S8192x128, .i32⟩
  | .hbm, ⟨15, _⟩ => ⟨S_, .i32⟩
  | .hbm, ⟨16, _⟩ => ⟨S8192x128, .i32⟩
  | .hbm, ⟨17, _⟩ => ⟨S8192x128, .i1⟩
  | .hbm, ⟨18, _⟩ => ⟨S8192x128, .i32⟩
  | .hbm, ⟨19, _⟩ => ⟨S8192x128, .i32⟩
  | .hbm, ⟨20, _⟩ => ⟨S_, .i32⟩
  | .hbm, ⟨21, _⟩ => ⟨S8192x128, .i32⟩
  | .hbm, ⟨22, _⟩ => ⟨S8192x128, .i1⟩
  | .hbm, ⟨23, _⟩ => ⟨S8192x128, .i1⟩
  | .hbm, ⟨24, _⟩ => ⟨S_, .i32⟩
  | .hbm, ⟨25, _⟩ => ⟨S8192x128, .i32⟩
  | .hbm, ⟨26, _⟩ => ⟨S8192x128, .i32⟩
  | .hbm, ⟨27, _⟩ => ⟨S8192x128, .i32⟩
  | .hbm, ⟨28, _⟩ => ⟨S8192x128, .i32⟩
  | .hbm, ⟨29, _⟩ => ⟨S8192x128, .i1⟩
  | .hbm, ⟨30, _⟩ => ⟨S_, .f32⟩
  | .hbm, ⟨31, _⟩ => ⟨S_, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .bf16⟩
  | .hbm, ⟨36, _⟩ => ⟨S_, .bf16⟩
  | .hbm, ⟨37, _⟩ => ⟨S4x3x8192x128, .bf16⟩
  | .hbm, ⟨38, _⟩ => ⟨S4x3x8192x128, .f32⟩
  | .hbm, ⟨39, _⟩ => ⟨S4x3x8192x128, .bf16⟩
  | .hbm, ⟨40, _⟩ => ⟨S4x3x8192x128, .bf16⟩
  | .hbm, ⟨41, _⟩ => ⟨S4x3x8192x256, .bf16⟩
  | .hbm, ⟨42, _⟩ => ⟨S4x3x8192x128, .f32⟩
  | .hbm, ⟨43, _⟩ => ⟨S4x3x8192x128, .bf16⟩
  | .hbm, ⟨44, _⟩ => ⟨S_, .bf16⟩
  | .hbm, ⟨45, _⟩ => ⟨S4x3x8192x128, .bf16⟩
  | .hbm, ⟨46, _⟩ => ⟨S4x3x8192x256, .bf16⟩
  | .hbm, ⟨47, _⟩ => ⟨S4x3x1x8192x256, .bf16⟩
  | .hbm, ⟨48, _⟩ => ⟨S4x3x1x8192x256, .bf16⟩
  | .hbm, ⟨49, _⟩ => ⟨S4x3x2x8192x256, .bf16⟩
  | .hbm, ⟨50, _⟩ => ⟨S4x3x8192x128, .f32⟩
  | .hbm, ⟨51, _⟩ => ⟨S4x3x8192x128, .bf16⟩
  | .hbm, ⟨52, _⟩ => ⟨S4x3x8192x256, .bf16⟩
  | .hbm, ⟨53, _⟩ => ⟨S4x3x8192x128, .f32⟩
  | .hbm, ⟨54, _⟩ => ⟨S4x3x8192x128, .bf16⟩
  | .hbm, ⟨55, _⟩ => ⟨S4x3x8192x256, .bf16⟩
  | .hbm, ⟨56, _⟩ => ⟨S4x3x1x8192x256, .bf16⟩
  | .hbm, ⟨57, _⟩ => ⟨S4x3x1x8192x256, .bf16⟩
  | .hbm, ⟨58, _⟩ => ⟨S4x3x2x8192x256, .bf16⟩
  | .hbm, ⟨59, _⟩ => ⟨S_, .i32⟩
  | .hbm, ⟨60, _⟩ => ⟨S4x3x8192x128, .i32⟩
  | .hbm, ⟨61, _⟩ => ⟨S4x3x8192x128, .i1⟩
  | .hbm, ⟨62, _⟩ => ⟨S_, .f32⟩
  | .hbm, ⟨63, _⟩ => ⟨S_, .f32⟩
  | .hbm, ⟨64, _⟩ => ⟨S4x3x8192x128, .f32⟩
  | .hbm, ⟨65, _⟩ => ⟨S4x3x8192x128, .f32⟩
  | .hbm, ⟨66, _⟩ => ⟨S4x3x8192x128, .f32⟩
  | .hbm, ⟨67, _⟩ => ⟨S4x3x8192x128, .bf16⟩
  | .hbm, ⟨68, _⟩ => ⟨S4x8192x3x12, .f32⟩
  | .hbm, ⟨69, _⟩ => ⟨S_, .i32⟩
  | .hbm, ⟨70, _⟩ => ⟨S_, .f32⟩
  | .hbm, ⟨71, _⟩ => ⟨S4x8192x3x128, .f32⟩
  | .hbm, ⟨72, _⟩ => ⟨S4x8192x3x128, .f32⟩
  | .hbm, ⟨73, _⟩ => ⟨S4x8192x3x128, .f32⟩
  | .hbm, ⟨74, _⟩ => ⟨S_, .f32⟩
  | .hbm, ⟨75, _⟩ => ⟨S4x8192x3x128, .f32⟩
  | .hbm, ⟨76, _⟩ => ⟨S4x8192x3x128, .f32⟩
  | .hbm, ⟨77, _⟩ => ⟨S_, .f32⟩
  | .hbm, ⟨78, _⟩ => ⟨S4x8192x3x128, .f32⟩
  | .hbm, ⟨79, _⟩ => ⟨S4x8192x3x128, .f32⟩
  | .hbm, ⟨80, _⟩ => ⟨S4x3x8192x128, .f32⟩
  | .hbm, ⟨81, _⟩ => ⟨S512x512, .i32⟩
  | .hbm, ⟨82, _⟩ => ⟨S512x512, .i32⟩
  | .hbm, ⟨83, _⟩ => ⟨S512x512, .i1⟩
  | .hbm, ⟨84, _⟩ => ⟨S_, .f32⟩
  | .hbm, ⟨85, _⟩ => ⟨S_, .f32⟩
  | .hbm, ⟨86, _⟩ => ⟨S512x512, .f32⟩
  | .hbm, ⟨87, _⟩ => ⟨S512x512, .f32⟩
  | .hbm, ⟨88, _⟩ => ⟨S512x512, .f32⟩
  | .hbm, ⟨89, _⟩ => ⟨S512x512, .i1⟩
  | .hbm, ⟨90, _⟩ => ⟨S_, .f32⟩
  | .hbm, ⟨91, _⟩ => ⟨S_, .f32⟩
  | .hbm, ⟨92, _⟩ => ⟨S512x512, .f32⟩
  | .hbm, ⟨93, _⟩ => ⟨S512x512, .f32⟩
  | .hbm, ⟨94, _⟩ => ⟨S512x512, .f32⟩
  | .hbm, ⟨95, _⟩ => ⟨S_, .f32⟩
  | .hbm, ⟨96, _⟩ => ⟨S512x512, .f32⟩
  | .hbm, ⟨97, _⟩ => ⟨S1x512x512, .f32⟩
  | .hbm, ⟨98, _⟩ => ⟨S1x512x512, .f32⟩
  | .hbm, ⟨99, _⟩ => ⟨S1x512x512, .f32⟩
  | .hbm, ⟨100, _⟩ => ⟨S3x512x512, .f32⟩
  | .hbm, ⟨101, _⟩ => ⟨S4x8192x1536, .f32⟩
  | .local _ .vmem, ⟨0, _⟩ => ⟨S1x4x512x128, .f32⟩
  | .local _ .vmem, ⟨1, _⟩ => ⟨S1x4x512x128, .f32⟩
  | .local _ .vmem, ⟨2, _⟩ => ⟨S1x1x1x8192x256, .bf16⟩
  | .local _ .vmem, ⟨3, _⟩ => ⟨S1x1x1x8192x256, .bf16⟩
  | .local _ .vmem, ⟨4, _⟩ => ⟨S1x1x1x8192x256, .bf16⟩
  | .local _ .vmem, ⟨5, _⟩ => ⟨S1x1x1x8192x256, .bf16⟩
  | .local _ .vmem, ⟨6, _⟩ => ⟨S1x1x1x512x256, .bf16⟩
  | .local _ .vmem, ⟨7, _⟩ => ⟨S1x1x1x512x256, .bf16⟩
  | .local _ .vmem, ⟨8, _⟩ => ⟨S1x1x1x512x256, .bf16⟩
  | .local _ .vmem, ⟨9, _⟩ => ⟨S1x1x1x512x256, .bf16⟩
  | .local _ .vmem, ⟨10, _⟩ => ⟨S1x1x1x512x256, .bf16⟩
  | .local _ .vmem, ⟨11, _⟩ => ⟨S1x1x1x512x256, .bf16⟩
  | .local _ .vmem, ⟨12, _⟩ => ⟨S1x1x1x512x256, .bf16⟩
  | .local _ .vmem, ⟨13, _⟩ => ⟨S1x1x1x512x256, .bf16⟩
  | .local _ .vmem, ⟨14, _⟩ => ⟨S3x512x512, .f32⟩
  | .local _ .vmem, ⟨15, _⟩ => ⟨S1x1x512x128, .bf16⟩
  | .local _ .vmem, ⟨16, _⟩ => ⟨S1x1x512x128, .bf16⟩
  | .local _ .vmem, ⟨17, _⟩ => ⟨S1x4x512x128, .f32⟩
  | .local _ .vmem, ⟨18, _⟩ => ⟨S1x4x512x128, .f32⟩
  | .local _ .vmem, ⟨19, _⟩ => ⟨S1x1x512x128, .f32⟩
  | .local _ .vmem, ⟨20, _⟩ => ⟨S1x1x512x128, .f32⟩
  | .local _ .vmem, ⟨21, _⟩ => ⟨S1x512x512, .f32⟩
  | .local _ .vmem, ⟨22, _⟩ => ⟨S1x512x512, .f32⟩
  | .local _ .vmem, ⟨23, _⟩ => ⟨S2048x256, .bf16⟩
  | .local _ .vmem, ⟨24, _⟩ => ⟨S2048x512, .f32⟩
  | .local _ .vmem, ⟨25, _⟩ => ⟨S2x2048x128, .f32⟩
  | .local _ .vmem, ⟨26, _⟩ => ⟨S2x2048x256, .f32⟩
  | _, _ => ⟨S4x8192x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_2 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_3 : Ref sig .tc := ⟨.hbm, 59, rfl⟩
abbrev main_v28 : Ref sig .tc := ⟨.hbm, 60, rfl⟩
abbrev main_v29 : Ref sig .tc := ⟨.hbm, 61, rfl⟩
abbrev main_cst_4 : Ref sig .tc := ⟨.hbm, 62, rfl⟩
abbrev main_cst_5 : Ref sig .tc := ⟨.hbm, 63, rfl⟩
abbrev main_call2_v0 : Ref sig .tc := ⟨.hbm, 64, rfl⟩
abbrev main_call2_v1 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_6 : Ref sig .tc := ⟨.hbm, 69, rfl⟩
abbrev main_call3_v0 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_7 : Ref sig .tc := ⟨.hbm, 74, rfl⟩
abbrev main_v36 : Ref sig .tc := ⟨.hbm, 75, rfl⟩
abbrev main_v37 : Ref sig .tc := ⟨.hbm, 76, rfl⟩
abbrev main_cst_8 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_9 : Ref sig .tc := ⟨.hbm, 84, rfl⟩
abbrev main_cst_10 : Ref sig .tc := ⟨.hbm, 85, rfl⟩
abbrev main_call4_v0 : Ref sig .tc := ⟨.hbm, 86, rfl⟩
abbrev main_call4_v1 : Ref sig .tc := ⟨.hbm, 87, rfl⟩
abbrev main_v44 : Ref sig .tc := ⟨.hbm, 88, rfl⟩
abbrev main_v45 : Ref sig .tc := ⟨.hbm, 89, rfl⟩
abbrev main_cst_11 : Ref sig .tc := ⟨.hbm, 90, rfl⟩
abbrev main_cst_12 : Ref sig .tc := ⟨.hbm, 91, rfl⟩
abbrev main_call5_v0 : Ref sig .tc := ⟨.hbm, 92, rfl⟩
abbrev main_call5_v1 : Ref sig .tc := ⟨.hbm, 93, rfl⟩
abbrev main_v46 : Ref sig .tc := ⟨.hbm, 94, rfl⟩
abbrev main_cst_13 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![4, 3, 16], ![false, false, false]⟩

@[reducible] def k0_t1_loop (i : grid0.Coords) : Scf.Loop 32 :=
  let c0_i32_35 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v29 : BitVec 1 := Scalar.cmpi .sgt v0 c0_i32
  let v30 : BitVec 32 := Scalar.extui v29
  let c0_i32_20 : BitVec 32 := 0#32
  let v31 : BitVec 1 := Scalar.cmpi .slt v0 c0_i32_20
  let v32 : BitVec 32 := Scalar.extui v31
  let v33 : BitVec 32 := Scalar.subi v30 v32
  let c512_i32_19 : BitVec 32 := 512#32
  let c0_i32_21 : BitVec 32 := 0#32
  let v34 : BitVec 1 := Scalar.cmpi .sgt c512_i32_19 c0_i32_21
  let v35 : BitVec 32 := Scalar.extui v34
  let c0_i32_22 : BitVec 32 := 0#32
  let v36 : BitVec 1 := Scalar.cmpi .slt c512_i32_19 c0_i32_22
  let v37 : BitVec 32 := Scalar.extui v36
  let v38 : BitVec 32 := Scalar.subi v35 v37
  let v39 : BitVec 1 := Scalar.cmpi .ne v33 v38
  let v40 : BitVec 32 := Scalar.remsi v0 c512_i32_19
  let c0_i32_23 : BitVec 32 := 0#32
  let v41 : BitVec 1 := Scalar.cmpi .ne v40 c0_i32_23
  let v42 : BitVec 1 := Scalar.andi v39 v41
  let v28 : BitVec 32 := Scalar.divsi v0 c512_i32_19
  let c1_i32 : BitVec 32 := 1#32
  let v43 : BitVec 32 := Scalar.subi v28 c1_i32
  let v44 : BitVec 32 := Scalar.select v42 v43 v28
  let v52 : BitVec 32 := Scalar.subi v44 c0_i32_35
  let c1_i32_36 : BitVec 32 := 1#32
  let v54 : BitVec 32 := Scalar.divsi v52 c1_i32_36
  let v55 : BitVec 32 := Scalar.muli v54 c1_i32_36
  let v56 : BitVec 32 := Scalar.addi c0_i32_35 v55
  let c1_i32_37 : BitVec 32 := 1#32
  ⟨c0_i32_35, v56, c1_i32_37⟩
def k0_mult1 (i : grid0.Coords) (k0_t1 : Fin (k0_t1_loop i).trips) : BitVec 32 :=
  let c0_i32_35 : BitVec 32 := 0#32
  let c1_i32_37 : BitVec 32 := 1#32
  let arg19 : BitVec 32 := Scf.iv c0_i32_35 c1_i32_37 k0_t1
  let c512_i32_160 : BitVec 32 := 512#32
  let v243 : BitVec 32 := Scalar.muli arg19 c512_i32_160
  v243
def k0_off1 (i : grid0.Coords) (k0_t1 : Fin (k0_t1_loop i).trips) : Fin 5 → Nat :=
  let c0_167 : Index := 0#32
  let c0_168 : Index := 0#32
  let c0_169 : Index := 0#32
  let c0_i32_35 : BitVec 32 := 0#32
  let c1_i32_37 : BitVec 32 := 1#32
  let arg19 : BitVec 32 := Scf.iv c0_i32_35 c1_i32_37 k0_t1
  let c512_i32_160 : BitVec 32 := 512#32
  let v243 : BitVec 32 := Scalar.muli arg19 c512_i32_160
  let v244 : BitVec 32 := v243
  let v256 : Index := Scalar.indexCast v244
  let c0_170 : Index := 0#32
  ![0, 0, 0, v256.toNat, 0]
def k0_mult2 (i : grid0.Coords) (k0_t1 : Fin (k0_t1_loop i).trips) : BitVec 32 :=
  let c0_i32_35 : BitVec 32 := 0#32
  let c1_i32_37 : BitVec 32 := 1#32
  let arg19 : BitVec 32 := Scf.iv c0_i32_35 c1_i32_37 k0_t1
  let c1_i32_181 : BitVec 32 := 1#32
  let v273 : BitVec 32 := Scalar.addi arg19 c1_i32_181
  let c512_i32_182 : BitVec 32 := 512#32
  let v274 : BitVec 32 := Scalar.muli v273 c512_i32_182
  v274
def k0_off2 (i : grid0.Coords) (k0_t1 : Fin (k0_t1_loop i).trips) : Fin 5 → Nat :=
  let c0_185 : Index := 0#32
  let c0_186 : Index := 0#32
  let c0_187 : Index := 0#32
  let c0_i32_35 : BitVec 32 := 0#32
  let c1_i32_37 : BitVec 32 := 1#32
  let arg19 : BitVec 32 := Scf.iv c0_i32_35 c1_i32_37 k0_t1
  let c1_i32_181 : BitVec 32 := 1#32
  let v273 : BitVec 32 := Scalar.addi arg19 c1_i32_181
  let c512_i32_182 : BitVec 32 := 512#32
  let v274 : BitVec 32 := Scalar.muli v273 c512_i32_182
  let v275 : BitVec 32 := v274
  let v277 : Index := Scalar.indexCast v275
  let c0_188 : Index := 0#32
  ![0, 0, 0, v277.toNat, 0]
@[reducible] def k0_t2_loop (i : grid0.Coords) : Scf.Loop 32 :=
  let c0_i32_35 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v29 : BitVec 1 := Scalar.cmpi .sgt v0 c0_i32
  let v30 : BitVec 32 := Scalar.extui v29
  let c0_i32_20 : BitVec 32 := 0#32
  let v31 : BitVec 1 := Scalar.cmpi .slt v0 c0_i32_20
  let v32 : BitVec 32 := Scalar.extui v31
  let v33 : BitVec 32 := Scalar.subi v30 v32
  let c512_i32_19 : BitVec 32 := 512#32
  let c0_i32_21 : BitVec 32 := 0#32
  let v34 : BitVec 1 := Scalar.cmpi .sgt c512_i32_19 c0_i32_21
  let v35 : BitVec 32 := Scalar.extui v34
  let c0_i32_22 : BitVec 32 := 0#32
  let v36 : BitVec 1 := Scalar.cmpi .slt c512_i32_19 c0_i32_22
  let v37 : BitVec 32 := Scalar.extui v36
  let v38 : BitVec 32 := Scalar.subi v35 v37
  let v39 : BitVec 1 := Scalar.cmpi .ne v33 v38
  let v40 : BitVec 32 := Scalar.remsi v0 c512_i32_19
  let c0_i32_23 : BitVec 32 := 0#32
  let v41 : BitVec 1 := Scalar.cmpi .ne v40 c0_i32_23
  let v42 : BitVec 1 := Scalar.andi v39 v41
  let v28 : BitVec 32 := Scalar.divsi v0 c512_i32_19
  let c1_i32 : BitVec 32 := 1#32
  let v43 : BitVec 32 := Scalar.subi v28 c1_i32
  let v44 : BitVec 32 := Scalar.select v42 v43 v28
  let v52 : BitVec 32 := Scalar.subi v44 c0_i32_35
  let c1_i32_36 : BitVec 32 := 1#32
  let v54 : BitVec 32 := Scalar.divsi v52 c1_i32_36
  let v55 : BitVec 32 := Scalar.muli v54 c1_i32_36
  let v56 : BitVec 32 := Scalar.addi c0_i32_35 v55
  let v53 : BitVec 32 := Scalar.addi c0_i32_35 v52
  let c1_i32_38 : BitVec 32 := 1#32
  ⟨v56, v53, c1_i32_38⟩
def k0_mult3 (i : grid0.Coords) (k0_t2 : Fin (k0_t2_loop i).trips) : BitVec 32 :=
  let c0_i32_35 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v29 : BitVec 1 := Scalar.cmpi .sgt v0 c0_i32
  let v30 : BitVec 32 := Scalar.extui v29
  let c0_i32_20 : BitVec 32 := 0#32
  let v31 : BitVec 1 := Scalar.cmpi .slt v0 c0_i32_20
  let v32 : BitVec 32 := Scalar.extui v31
  let v33 : BitVec 32 := Scalar.subi v30 v32
  let c512_i32_19 : BitVec 32 := 512#32
  let c0_i32_21 : BitVec 32 := 0#32
  let v34 : BitVec 1 := Scalar.cmpi .sgt c512_i32_19 c0_i32_21
  let v35 : BitVec 32 := Scalar.extui v34
  let c0_i32_22 : BitVec 32 := 0#32
  let v36 : BitVec 1 := Scalar.cmpi .slt c512_i32_19 c0_i32_22
  let v37 : BitVec 32 := Scalar.extui v36
  let v38 : BitVec 32 := Scalar.subi v35 v37
  let v39 : BitVec 1 := Scalar.cmpi .ne v33 v38
  let v40 : BitVec 32 := Scalar.remsi v0 c512_i32_19
  let c0_i32_23 : BitVec 32 := 0#32
  let v41 : BitVec 1 := Scalar.cmpi .ne v40 c0_i32_23
  let v42 : BitVec 1 := Scalar.andi v39 v41
  let v28 : BitVec 32 := Scalar.divsi v0 c512_i32_19
  let c1_i32 : BitVec 32 := 1#32
  let v43 : BitVec 32 := Scalar.subi v28 c1_i32
  let v44 : BitVec 32 := Scalar.select v42 v43 v28
  let v52 : BitVec 32 := Scalar.subi v44 c0_i32_35
  let c1_i32_36 : BitVec 32 := 1#32
  let v54 : BitVec 32 := Scalar.divsi v52 c1_i32_36
  let v55 : BitVec 32 := Scalar.muli v54 c1_i32_36
  let v56 : BitVec 32 := Scalar.addi c0_i32_35 v55
  let c1_i32_38 : BitVec 32 := 1#32
  let arg19 : BitVec 32 := Scf.iv v56 c1_i32_38 k0_t2
  let c512_i32_160 : BitVec 32 := 512#32
  let v243 : BitVec 32 := Scalar.muli arg19 c512_i32_160
  v243
def k0_off3 (i : grid0.Coords) (k0_t2 : Fin (k0_t2_loop i).trips) : Fin 5 → Nat :=
  let c0_167 : Index := 0#32
  let c0_168 : Index := 0#32
  let c0_169 : Index := 0#32
  let c0_i32_35 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v29 : BitVec 1 := Scalar.cmpi .sgt v0 c0_i32
  let v30 : BitVec 32 := Scalar.extui v29
  let c0_i32_20 : BitVec 32 := 0#32
  let v31 : BitVec 1 := Scalar.cmpi .slt v0 c0_i32_20
  let v32 : BitVec 32 := Scalar.extui v31
  let v33 : BitVec 32 := Scalar.subi v30 v32
  let c512_i32_19 : BitVec 32 := 512#32
  let c0_i32_21 : BitVec 32 := 0#32
  let v34 : BitVec 1 := Scalar.cmpi .sgt c512_i32_19 c0_i32_21
  let v35 : BitVec 32 := Scalar.extui v34
  let c0_i32_22 : BitVec 32 := 0#32
  let v36 : BitVec 1 := Scalar.cmpi .slt c512_i32_19 c0_i32_22
  let v37 : BitVec 32 := Scalar.extui v36
  let v38 : BitVec 32 := Scalar.subi v35 v37
  let v39 : BitVec 1 := Scalar.cmpi .ne v33 v38
  let v40 : BitVec 32 := Scalar.remsi v0 c512_i32_19
  let c0_i32_23 : BitVec 32 := 0#32
  let v41 : BitVec 1 := Scalar.cmpi .ne v40 c0_i32_23
  let v42 : BitVec 1 := Scalar.andi v39 v41
  let v28 : BitVec 32 := Scalar.divsi v0 c512_i32_19
  let c1_i32 : BitVec 32 := 1#32
  let v43 : BitVec 32 := Scalar.subi v28 c1_i32
  let v44 : BitVec 32 := Scalar.select v42 v43 v28
  let v52 : BitVec 32 := Scalar.subi v44 c0_i32_35
  let c1_i32_36 : BitVec 32 := 1#32
  let v54 : BitVec 32 := Scalar.divsi v52 c1_i32_36
  let v55 : BitVec 32 := Scalar.muli v54 c1_i32_36
  let v56 : BitVec 32 := Scalar.addi c0_i32_35 v55
  let c1_i32_38 : BitVec 32 := 1#32
  let arg19 : BitVec 32 := Scf.iv v56 c1_i32_38 k0_t2
  let c512_i32_160 : BitVec 32 := 512#32
  let v243 : BitVec 32 := Scalar.muli arg19 c512_i32_160
  let v244 : BitVec 32 := v243
  let v256 : Index := Scalar.indexCast v244
  let c0_170 : Index := 0#32
  ![0, 0, 0, v256.toNat, 0]
def k0_mult4 (i : grid0.Coords) (k0_t2 : Fin (k0_t2_loop i).trips) : BitVec 32 :=
  let c0_i32_35 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v29 : BitVec 1 := Scalar.cmpi .sgt v0 c0_i32
  let v30 : BitVec 32 := Scalar.extui v29
  let c0_i32_20 : BitVec 32 := 0#32
  let v31 : BitVec 1 := Scalar.cmpi .slt v0 c0_i32_20
  let v32 : BitVec 32 := Scalar.extui v31
  let v33 : BitVec 32 := Scalar.subi v30 v32
  let c512_i32_19 : BitVec 32 := 512#32
  let c0_i32_21 : BitVec 32 := 0#32
  let v34 : BitVec 1 := Scalar.cmpi .sgt c512_i32_19 c0_i32_21
  let v35 : BitVec 32 := Scalar.extui v34
  let c0_i32_22 : BitVec 32 := 0#32
  let v36 : BitVec 1 := Scalar.cmpi .slt c512_i32_19 c0_i32_22
  let v37 : BitVec 32 := Scalar.extui v36
  let v38 : BitVec 32 := Scalar.subi v35 v37
  let v39 : BitVec 1 := Scalar.cmpi .ne v33 v38
  let v40 : BitVec 32 := Scalar.remsi v0 c512_i32_19
  let c0_i32_23 : BitVec 32 := 0#32
  let v41 : BitVec 1 := Scalar.cmpi .ne v40 c0_i32_23
  let v42 : BitVec 1 := Scalar.andi v39 v41
  let v28 : BitVec 32 := Scalar.divsi v0 c512_i32_19
  let c1_i32 : BitVec 32 := 1#32
  let v43 : BitVec 32 := Scalar.subi v28 c1_i32
  let v44 : BitVec 32 := Scalar.select v42 v43 v28
  let v52 : BitVec 32 := Scalar.subi v44 c0_i32_35
  let c1_i32_36 : BitVec 32 := 1#32
  let v54 : BitVec 32 := Scalar.divsi v52 c1_i32_36
  let v55 : BitVec 32 := Scalar.muli v54 c1_i32_36
  let v56 : BitVec 32 := Scalar.addi c0_i32_35 v55
  let c1_i32_38 : BitVec 32 := 1#32
  let arg19 : BitVec 32 := Scf.iv v56 c1_i32_38 k0_t2
  let c1_i32_181 : BitVec 32 := 1#32
  let v273 : BitVec 32 := Scalar.addi arg19 c1_i32_181
  let c512_i32_182 : BitVec 32 := 512#32
  let v274 : BitVec 32 := Scalar.muli v273 c512_i32_182
  v274
def k0_off4 (i : grid0.Coords) (k0_t2 : Fin (k0_t2_loop i).trips) : Fin 5 → Nat :=
  let c0_185 : Index := 0#32
  let c0_186 : Index := 0#32
  let c0_187 : Index := 0#32
  let c0_i32_35 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v29 : BitVec 1 := Scalar.cmpi .sgt v0 c0_i32
  let v30 : BitVec 32 := Scalar.extui v29
  let c0_i32_20 : BitVec 32 := 0#32
  let v31 : BitVec 1 := Scalar.cmpi .slt v0 c0_i32_20
  let v32 : BitVec 32 := Scalar.extui v31
  let v33 : BitVec 32 := Scalar.subi v30 v32
  let c512_i32_19 : BitVec 32 := 512#32
  let c0_i32_21 : BitVec 32 := 0#32
  let v34 : BitVec 1 := Scalar.cmpi .sgt c512_i32_19 c0_i32_21
  let v35 : BitVec 32 := Scalar.extui v34
  let c0_i32_22 : BitVec 32 := 0#32
  let v36 : BitVec 1 := Scalar.cmpi .slt c512_i32_19 c0_i32_22
  let v37 : BitVec 32 := Scalar.extui v36
  let v38 : BitVec 32 := Scalar.subi v35 v37
  let v39 : BitVec 1 := Scalar.cmpi .ne v33 v38
  let v40 : BitVec 32 := Scalar.remsi v0 c512_i32_19
  let c0_i32_23 : BitVec 32 := 0#32
  let v41 : BitVec 1 := Scalar.cmpi .ne v40 c0_i32_23
  let v42 : BitVec 1 := Scalar.andi v39 v41
  let v28 : BitVec 32 := Scalar.divsi v0 c512_i32_19
  let c1_i32 : BitVec 32 := 1#32
  let v43 : BitVec 32 := Scalar.subi v28 c1_i32
  let v44 : BitVec 32 := Scalar.select v42 v43 v28
  let v52 : BitVec 32 := Scalar.subi v44 c0_i32_35
  let c1_i32_36 : BitVec 32 := 1#32
  let v54 : BitVec 32 := Scalar.divsi v52 c1_i32_36
  let v55 : BitVec 32 := Scalar.muli v54 c1_i32_36
  let v56 : BitVec 32 := Scalar.addi c0_i32_35 v55
  let c1_i32_38 : BitVec 32 := 1#32
  let arg19 : BitVec 32 := Scf.iv v56 c1_i32_38 k0_t2
  let c1_i32_181 : BitVec 32 := 1#32
  let v273 : BitVec 32 := Scalar.addi arg19 c1_i32_181
  let c512_i32_182 : BitVec 32 := 512#32
  let v274 : BitVec 32 := Scalar.muli v273 c512_i32_182
  let v275 : BitVec 32 := v274
  let v277 : Index := Scalar.indexCast v275
  let c0_188 : Index := 0#32
  ![0, 0, 0, v277.toNat, 0]
def k0_mult5 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v29 : BitVec 1 := Scalar.cmpi .sgt v0 c0_i32
  let v30 : BitVec 32 := Scalar.extui v29
  let c0_i32_20 : BitVec 32 := 0#32
  let v31 : BitVec 1 := Scalar.cmpi .slt v0 c0_i32_20
  let v32 : BitVec 32 := Scalar.extui v31
  let v33 : BitVec 32 := Scalar.subi v30 v32
  let c512_i32_19 : BitVec 32 := 512#32
  let c0_i32_21 : BitVec 32 := 0#32
  let v34 : BitVec 1 := Scalar.cmpi .sgt c512_i32_19 c0_i32_21
  let v35 : BitVec 32 := Scalar.extui v34
  let c0_i32_22 : BitVec 32 := 0#32
  let v36 : BitVec 1 := Scalar.cmpi .slt c512_i32_19 c0_i32_22
  let v37 : BitVec 32 := Scalar.extui v36
  let v38 : BitVec 32 := Scalar.subi v35 v37
  let v39 : BitVec 1 := Scalar.cmpi .ne v33 v38
  let v40 : BitVec 32 := Scalar.remsi v0 c512_i32_19
  let c0_i32_23 : BitVec 32 := 0#32
  let v41 : BitVec 1 := Scalar.cmpi .ne v40 c0_i32_23
  let v42 : BitVec 1 := Scalar.andi v39 v41
  let v28 : BitVec 32 := Scalar.divsi v0 c512_i32_19
  let c1_i32 : BitVec 32 := 1#32
  let v43 : BitVec 32 := Scalar.subi v28 c1_i32
  let v44 : BitVec 32 := Scalar.select v42 v43 v28
  let c512_i32_39 : BitVec 32 := 512#32
  let v57 : BitVec 32 := Scalar.muli v44 c512_i32_39
  v57
def k0_off5 (i : grid0.Coords) : Fin 5 → Nat :=
  let c0_50 : Index := 0#32
  let c0_51 : Index := 0#32
  let c0_52 : Index := 0#32
  let arg2 : BitVec 32 := BitVec.ofNat 32 (i 2).val
  let c512_i32 : BitVec 32 := 512#32
  let v0 : BitVec 32 := Scalar.muli arg2 c512_i32
  let c0_i32 : BitVec 32 := 0#32
  let v29 : BitVec 1 := Scalar.cmpi .sgt v0 c0_i32
  let v30 : BitVec 32 := Scalar.extui v29
  let c0_i32_20 : BitVec 32 := 0#32
  let v31 : BitVec 1 := Scalar.cmpi .slt v0 c0_i32_20
  let v32 : BitVec 32 := Scalar.extui v31
  let v33 : BitVec 32 := Scalar.subi v30 v32
  let c512_i32_19 : BitVec 32 := 512#32
  let c0_i32_21 : BitVec 32 := 0#32
  let v34 : BitVec 1 := Scalar.cmpi .sgt c512_i32_19 c0_i32_21
  let v35 : BitVec 32 := Scalar.extui v34
  let c0_i32_22 : BitVec 32 := 0#32
  let v36 : BitVec 1 := Scalar.cmpi .slt c512_i32_19 c0_i32_22
  let v37 : BitVec 32 := Scalar.extui v36
  let v38 : BitVec 32 := Scalar.subi v35 v37
  let v39 : BitVec 1 := Scalar.cmpi .ne v33 v38
  let v40 : BitVec 32 := Scalar.remsi v0 c512_i32_19
  let c0_i32_23 : BitVec 32 := 0#32
  let v41 : BitVec 1 := Scalar.cmpi .ne v40 c0_i32_23
  let v42 : BitVec 1 := Scalar.andi v39 v41
  let v28 : BitVec 32 := Scalar.divsi v0 c512_i32_19
  let c1_i32 : BitVec 32 := 1#32
  let v43 : BitVec 32 := Scalar.subi v28 c1_i32
  let v44 : BitVec 32 := Scalar.select v42 v43 v28
  let c512_i32_39 : BitVec 32 := 512#32
  let v57 : BitVec 32 := Scalar.muli v44 c512_i32_39
  let v58 : BitVec 32 := v57
  let v79 : Index := Scalar.indexCast v58
  let c0_53 : Index := 0#32
  ![0, 0, 0, v79.toNat, 0]
def k0_off6 (i : grid0.Coords) : Fin 3 → Nat :=
  let arg2 : BitVec 32 := BitVec.ofNat 32 (i 2).val
  let c512_i32 : BitVec 32 := 512#32
  let v0 : BitVec 32 := Scalar.muli arg2 c512_i32
  let c0_i32 : BitVec 32 := 0#32
  let v29 : BitVec 1 := Scalar.cmpi .sgt v0 c0_i32
  let v30 : BitVec 32 := Scalar.extui v29
  let c0_i32_20 : BitVec 32 := 0#32
  let v31 : BitVec 1 := Scalar.cmpi .slt v0 c0_i32_20
  let v32 : BitVec 32 := Scalar.extui v31
  let v33 : BitVec 32 := Scalar.subi v30 v32
  let c512_i32_19 : BitVec 32 := 512#32
  let c0_i32_21 : BitVec 32 := 0#32
  let v34 : BitVec 1 := Scalar.cmpi .sgt c512_i32_19 c0_i32_21
  let v35 : BitVec 32 := Scalar.extui v34
  let c0_i32_22 : BitVec 32 := 0#32
  let v36 : BitVec 1 := Scalar.cmpi .slt c512_i32_19 c0_i32_22
  let v37 : BitVec 32 := Scalar.extui v36
  let v38 : BitVec 32 := Scalar.subi v35 v37
  let v39 : BitVec 1 := Scalar.cmpi .ne v33 v38
  let v40 : BitVec 32 := Scalar.remsi v0 c512_i32_19
  let c0_i32_23 : BitVec 32 := 0#32
  let v41 : BitVec 1 := Scalar.cmpi .ne v40 c0_i32_23
  let v42 : BitVec 1 := Scalar.andi v39 v41
  let v28 : BitVec 32 := Scalar.divsi v0 c512_i32_19
  let c1_i32 : BitVec 32 := 1#32
  let v43 : BitVec 32 := Scalar.subi v28 c1_i32
  let v44 : BitVec 32 := Scalar.select v42 v43 v28
  let c0_i32_74 : BitVec 32 := 0#32
  let v103 : BitVec 1 := Scalar.cmpi .sgt v44 c0_i32_74
  let c1_i32_75 : BitVec 32 := 1#32
  let c2_i32 : BitVec 32 := 2#32
  let v104 : BitVec 32 := Scalar.select v103 c1_i32_75 c2_i32
  let v107 : Index := Scalar.indexCast v104
  let c0_78 : Index := 0#32
  let c0_79 : Index := 0#32
  ![v107.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c1_i32_0 : BitVec 32 := 1#32
  let c0_i32_1 : BitVec 32 := 0#32
  let c0_i32_2 : BitVec 32 := 0#32
  ![arg0.toNat, arg1.toNat, c1_i32_0.toNat, v1.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c1_i32_0 : BitVec 32 := 1#32
  let c0_i32_1 : BitVec 32 := 0#32
  let c0_i32_2 : BitVec 32 := 0#32
  ![arg0.toNat, arg1.toNat, c1_i32_0.toNat, v1.toNat, c0_i32_1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, arg1.toNat, c1_i32.toNat, arg2.toNat, c0_i32.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, arg1.toNat, c1_i32.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S3x512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x4x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "mask" => some ⊥
  | "scale_log2e" => some (((11863283 / 134217728) * (Real.log 2)⁻¹ : ℝ) : EReal)
  | "unselected" => some ⊥
  | _ => none
-- ==== ReferenceIdeal.lean ====
abbrev S4x8192x12x128 : Shape := ⟨4, ![4, 8192, 12, 128]⟩
abbrev S4x8192x3x128 : Shape := ⟨4, ![4, 8192, 3, 128]⟩
abbrev S4x3x8192x128 : Shape := ⟨4, ![4, 3, 8192, 128]⟩
abbrev S4x12x8192x128 : Shape := ⟨4, ![4, 12, 8192, 128]⟩
abbrev S4x8192x36 : Shape := ⟨3, ![4, 8192, 36]⟩
abbrev S4x8192x3x4x128 : Shape := ⟨5, ![4, 8192, 3, 4, 128]⟩
abbrev S4x3x4x8192x128 : Shape := ⟨5, ![4, 3, 4, 8192, 128]⟩
abbrev S8192x8192 : Shape := ⟨2, ![8192, 8192]⟩
abbrev S_ : Shape := ⟨0, ![]⟩
abbrev S4x3x8192x128x64 : Shape := ⟨5, ![4, 3, 8192, 128, 64]⟩
abbrev S4x3x8192x8192 : Shape := ⟨4, ![4, 3, 8192, 8192]⟩
abbrev S1x1x8192x8192 : Shape := ⟨4, ![1, 1, 8192, 8192]⟩
abbrev S4x3x1x8192x8192 : Shape := ⟨5, ![4, 3, 1, 8192, 8192]⟩
abbrev S4x3x4x8192x8192 : Shape := ⟨5, ![4, 3, 4, 8192, 8192]⟩
abbrev S4x3x4x8192 : Shape := ⟨4, ![4, 3, 4, 8192]⟩
abbrev S4x3x4x8192x1 : Shape := ⟨5, ![4, 3, 4, 8192, 1]⟩
abbrev S4x8192x3x4x3 : Shape := ⟨5, ![4, 8192, 3, 4, 3]⟩
abbrev S4x3x4x8192x3 : Shape := ⟨5, ![4, 3, 4, 8192, 3]⟩
abbrev S4x8192x1536 : Shape := ⟨3, ![4, 8192, 1536]⟩

abbrev nBuf : Space → Nat
  | .hbm => 124
  | .vmem => 0
  | .smem => 0
  | _ => 0

abbrev bufTy : (tb : Table) → Fin (tcTables nBuf tb) → BufTy
  | .hbm, ⟨0, _⟩ => ⟨S4x8192x12x128, .f32⟩
  | .hbm, ⟨1, _⟩ => ⟨S4x8192x3x128, .f32⟩
  | .hbm, ⟨2, _⟩ => ⟨S4x8192x3x128, .f32⟩
  | .hbm, ⟨3, _⟩ => ⟨S4x8192x3x128, .f32⟩
  | .hbm, ⟨4, _⟩ => ⟨S4x8192x3x128, .f32⟩
  | .hbm, ⟨5, _⟩ => ⟨S4x3x8192x128, .i32⟩
  | .hbm, ⟨6, _⟩ => ⟨S4x12x8192x128, .f32⟩
  | .hbm, ⟨7, _⟩ => ⟨S4x8192x36, .f32⟩
  | .hbm, ⟨8, _⟩ => ⟨S4x8192x3x4x128, .f32⟩
  | .hbm, ⟨9, _⟩ => ⟨S4x3x4x8192x128, .f32⟩
  | .hbm, ⟨10, _⟩ => ⟨S8192x8192, .i32⟩
  | .hbm, ⟨11, _⟩ => ⟨S8192x8192, .i32⟩
  | .hbm, ⟨12, _⟩ => ⟨S_, .i32⟩
  | .hbm, ⟨13, _⟩ => ⟨S4x3x8192x128, .i32⟩
  | .hbm, ⟨14, _⟩ => ⟨S4x3x8192x128, .i1⟩
  | .hbm, ⟨15, _⟩ => ⟨S4x3x8192x128x64, .i1⟩
  | .hbm, ⟨16, _⟩ => ⟨S4x3x8192x8192, .i1⟩
  | .hbm, ⟨17, _⟩ => ⟨S8192x8192, .i1⟩
  | .hbm, ⟨18, _⟩ => ⟨S1x1x8192x8192, .i1⟩
  | .hbm, ⟨19, _⟩ => ⟨S4x3x8192x8192, .i1⟩
  | .hbm, ⟨20, _⟩ => ⟨S4x3x8192x8192, .i1⟩
  | .hbm, ⟨21, _⟩ => ⟨S4x3x1x8192x8192, .i1⟩
  | .hbm, ⟨22, _⟩ => ⟨S4x3x4x8192x8192, .f32⟩
  | .hbm, ⟨23, _⟩ => ⟨S_, .f32⟩
  | .hbm, ⟨24, _⟩ => ⟨S4x3x4x8192x8192, .f32⟩
  | .hbm, ⟨25, _⟩ => ⟨S4x3x4x8192x8192, .f32⟩
  | .hbm, ⟨26, _⟩ => ⟨S_, .f32⟩
  | .hbm, ⟨27, _⟩ => ⟨S_, .f32⟩
  | .hbm, ⟨28, _⟩ => ⟨S4x3x4x8192x8192, .i1⟩
  | .hbm, ⟨29, _⟩ => ⟨S4x3x4x8192x8192, .f32⟩
  | .hbm, ⟨30, _⟩ => ⟨S4x3x4x8192x8192, .f32⟩
  | .hbm, ⟨31, _⟩ => ⟨S_, .f32⟩
  | .hbm, ⟨32, _⟩ => ⟨S4x3x4x8192, .f32⟩
  | .hbm, ⟨33, _⟩ => ⟨S4x3x4x8192x1, .f32⟩
  | .hbm, ⟨34, _⟩ => ⟨S_, .f32⟩
  | .hbm, ⟨35, _⟩ => ⟨S4x3x4x8192x1, .f32⟩
  | .hbm, ⟨36, _⟩ => ⟨S4x3x4x8192x1, .i1⟩
  | .hbm, ⟨37, _⟩ => ⟨S_, .f32⟩
  | .hbm, ⟨38, _⟩ => ⟨S_, .f32⟩
  | .hbm, ⟨39, _⟩ => ⟨S4x3x4x8192x1, .f32⟩
  | .hbm, ⟨40, _⟩ => ⟨S4x3x4x8192x1, .f32⟩
  | .hbm, ⟨41, _⟩ => ⟨S4x3x4x8192x8192, .f32⟩
  | .hbm, ⟨42, _⟩ => ⟨S4x3x4x8192x8192, .f32⟩
  | .hbm, ⟨43, _⟩ => ⟨S4x3x4x8192x8192, .f32⟩
  | .hbm, ⟨44, _⟩ => ⟨S_, .f32⟩
  | .hbm, ⟨45, _⟩ => ⟨S_, .f32⟩
  | .hbm, ⟨46, _⟩ => ⟨S4x3x4x8192x8192, .i1⟩
  | .hbm, ⟨47, _⟩ => ⟨S4x3x4x8192x8192, .f32⟩
  | .hbm, ⟨48, _⟩ => ⟨S4x3x4x8192x8192, .f32⟩
  | .hbm, ⟨49, _⟩ => ⟨S_, .f32⟩
  | .hbm, ⟨50, _⟩ => ⟨S4x3x4x8192, .f32⟩
  | .hbm, ⟨51, _⟩ => ⟨S4x3x4x8192x1, .f32⟩
  | .hbm, ⟨52, _⟩ => ⟨S_, .f32⟩
  | .hbm, ⟨53, _⟩ => ⟨S4x3x4x8192x1, .f32⟩
  | .hbm, ⟨54, _⟩ => ⟨S4x3x4x8192x1, .f32⟩
  | .hbm, ⟨55, _⟩ => ⟨S4x3x4x8192x8192, .f32⟩
  | .hbm, ⟨56, _⟩ => ⟨S4x3x4x8192x8192, .f32⟩
  | .hbm, ⟨57, _⟩ => ⟨S4x3x4x8192x128, .f32⟩
  | .hbm, ⟨58, _⟩ => ⟨S8192x8192, .i1⟩
  | .hbm, ⟨59, _⟩ => ⟨S_, .i32⟩
  | .hbm, ⟨60, _⟩ => ⟨S8192x8192, .i32⟩
  | .hbm, ⟨61, _⟩ => ⟨S8192x8192, .i32⟩
  | .hbm, ⟨62, _⟩ => ⟨S8192x8192, .i1⟩
  | .hbm, ⟨63, _⟩ => ⟨S8192x8192, .i1⟩
  | .hbm, ⟨64, _⟩ => ⟨S4x3x4x8192x8192, .f32⟩
  | .hbm, ⟨65, _⟩ => ⟨S_, .f32⟩
  | .hbm, ⟨66, _⟩ => ⟨S4x3x4x8192x8192, .f32⟩
  | .hbm, ⟨67, _⟩ => ⟨S4x3x4x8192x8192, .f32⟩
  | .hbm, ⟨68, _⟩ => ⟨S_, .f32⟩
  | .hbm, ⟨69, _⟩ => ⟨S_, .f32⟩
  | .hbm, ⟨70, _⟩ => ⟨S4x3x4x8192x8192, .i1⟩
  | .hbm, ⟨71, _⟩ => ⟨S4x3x4x8192x8192, .f32⟩
  | .hbm, ⟨72, _⟩ => ⟨S4x3x4x8192x8192, .f32⟩
  | .hbm, ⟨73, _⟩ => ⟨S_, .f32⟩
  | .hbm, ⟨74, _⟩ => ⟨S4x3x4x8192, .f32⟩
  | .hbm, ⟨75, _⟩ => ⟨S4x3x4x8192x1, .f32⟩
  | .hbm, ⟨76, _⟩ => ⟨S_, .f32⟩
  | .hbm, ⟨77, _⟩ => ⟨S4x3x4x8192x1, .f32⟩
  | .hbm, ⟨78, _⟩ => ⟨S4x3x4x8192x1, .i1⟩
  | .hbm, ⟨79, _⟩ => ⟨S_, .f32⟩
  | .hbm, ⟨80, _⟩ => ⟨S_, .f32⟩
  | .hbm, ⟨81, _⟩ => ⟨S4x3x4x8192x1, .f32⟩
  | .hbm, ⟨82, _⟩ => ⟨S4x3x4x8192x1, .f32⟩
  | .hbm, ⟨83, _⟩ => ⟨S4x3x4x8192x8192, .f32⟩
  | .hbm, ⟨84, _⟩ => ⟨S4x3x4x8192x8192, .f32⟩
  | .hbm, ⟨85, _⟩ => ⟨S4x3x4x8192x8192, .f32⟩
  | .hbm, ⟨86, _⟩ => ⟨S_, .f32⟩
  | .hbm, ⟨87, _⟩ => ⟨S_, .f32⟩
  | .hbm, ⟨88, _⟩ => ⟨S4x3x4x8192x8192, .i1⟩
  | .hbm, ⟨89, _⟩ => ⟨S4x3x4x8192x8192, .f32⟩
  | .hbm, ⟨90, _⟩ => ⟨S4x3x4x8192x8192, .f32⟩
  | .hbm, ⟨91, _⟩ => ⟨S_, .f32⟩
  | .hbm, ⟨92, _⟩ => ⟨S4x3x4x8192, .f32⟩
  | .hbm, ⟨93, _⟩ => ⟨S4x3x4x8192x1, .f32⟩
  | .hbm, ⟨94, _⟩ => ⟨S_, .f32⟩
  | .hbm, ⟨95, _⟩ => ⟨S4x3x4x8192x1, .f32⟩
  | .hbm, ⟨96, _⟩ => ⟨S4x3x4x8192x1, .f32⟩
  | .hbm, ⟨97, _⟩ => ⟨S4x3x4x8192x8192, .f32⟩
  | .hbm, ⟨98, _⟩ => ⟨S4x3x4x8192x8192, .f32⟩
  | .hbm, ⟨99, _⟩ => ⟨S4x3x4x8192x128, .f32⟩
  | .hbm, ⟨100, _⟩ => ⟨S4x8192x36, .f32⟩
  | .hbm, ⟨101, _⟩ => ⟨S4x8192x36, .f32⟩
  | .hbm, ⟨102, _⟩ => ⟨S_, .f32⟩
  | .hbm, ⟨103, _⟩ => ⟨S4x8192x36, .f32⟩
  | .hbm, ⟨104, _⟩ => ⟨S4x8192x36, .f32⟩
  | .hbm, ⟨105, _⟩ => ⟨S_, .f32⟩
  | .hbm, ⟨106, _⟩ => ⟨S4x8192x36, .f32⟩
  | .hbm, ⟨107, _⟩ => ⟨S4x8192x36, .f32⟩
  | .hbm, ⟨108, _⟩ => ⟨S4x8192x3x4x3, .f32⟩
  | .hbm, ⟨109, _⟩ => ⟨S4x3x4x8192x3, .f32⟩
  | .hbm, ⟨110, _⟩ => ⟨S4x3x4x8192x1, .f32⟩
  | .hbm, ⟨111, _⟩ => ⟨S4x3x4x8192x128, .f32⟩
  | .hbm, ⟨112, _⟩ => ⟨S4x3x4x8192x128, .f32⟩
  | .hbm, ⟨113, _⟩ => ⟨S4x3x4x8192x128, .f32⟩
  | .hbm, ⟨114, _⟩ => ⟨S4x3x4x8192x1, .f32⟩
  | .hbm, ⟨115, _⟩ => ⟨S4x3x4x8192x128, .f32⟩
  | .hbm, ⟨116, _⟩ => ⟨S4x3x4x8192x128, .f32⟩
  | .hbm, ⟨117, _⟩ => ⟨S4x3x4x8192x128, .f32⟩
  | .hbm, ⟨118, _⟩ => ⟨S4x3x4x8192x1, .f32⟩
  | .hbm, ⟨119, _⟩ => ⟨S4x3x4x8192x128, .f32⟩
  | .hbm, ⟨120, _⟩ => ⟨S4x3x4x8192x128, .f32⟩
  | .hbm, ⟨121, _⟩ => ⟨S4x3x4x8192x128, .f32⟩
  | .hbm, ⟨122, _⟩ => ⟨S4x8192x3x4x128, .f32⟩
  | .hbm, ⟨123, _⟩ => ⟨S4x8192x1536, .f32⟩
  | _, _ => ⟨S4x8192x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v41 : Ref sig .tc := ⟨.hbm, 72, rfl⟩
abbrev main_cst_10 : Ref sig .tc := ⟨.hbm, 73, rfl⟩
abbrev main_v42 : Ref sig .tc := ⟨.hbm, 74, rfl⟩
abbrev main_v43 : Ref sig .tc := ⟨.hbm, 75, rfl⟩
abbrev main_cst_11 : Ref sig .tc := ⟨.hbm, 76, rfl⟩
abbrev main_v44 : Ref sig .tc := ⟨.hbm, 77, rfl⟩
abbrev main_v45 : Ref sig .tc := ⟨.hbm, 78, rfl⟩
abbrev main_cst_12 : Ref sig .tc := ⟨.hbm, 79, rfl⟩
abbrev main_call4_v0 : Ref sig .tc := ⟨.hbm, 80, rfl⟩
abbrev main_call4_v1 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_13 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_v50 : Ref sig .tc := ⟨.hbm, 90, rfl⟩
abbrev main_cst_14 : Ref sig .tc := ⟨.hbm, 91, rfl⟩
abbrev main_v51 : Ref sig .tc := ⟨.hbm, 92, rfl⟩
abbrev main_v52 : Ref sig .tc := ⟨.hbm, 93, rfl⟩
abbrev main_cst_15 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_16 : Ref sig .tc := ⟨.hbm, 102, rfl⟩
abbrev main_v60 : Ref sig .tc := ⟨.hbm, 103, rfl⟩
abbrev main_v61 : Ref sig .tc := ⟨.hbm, 104, rfl⟩
abbrev main_cst_17 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩

abbrev nD : Nat := 1
abbrev τ : Topo := Topo.v7x

variable {F : FTy → Type} [FloatOps F]
-- ==== Kernel2.lean ====
abbrev S32768x2048 : Shape := ⟨2, ![32768, 2048]⟩
abbrev S2048 : Shape := ⟨1, ![2048]⟩
abbrev S2048x5504 : Shape := ⟨2, ![2048, 5504]⟩
abbrev S5504x2048 : Shape := ⟨2, ![5504, 2048]⟩
abbrev S1x2048 : Shape := ⟨2, ![1, 2048]⟩
abbrev S2048x384 : Shape := ⟨2, ![2048, 384]⟩
abbrev S384x2048 : Shape := ⟨2, ![384, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩
abbrev S512x384 : Shape := ⟨2, ![512, 384]⟩

abbrev nBuf : Space → Nat
  | .hbm => 15
  | .vmem => 16
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S2048x5504, .bf16⟩
  | .hbm, ⟨7, _⟩ => ⟨S2048x5504, .bf16⟩
  | .hbm, ⟨8, _⟩ => ⟨S5504x2048, .bf16⟩
  | .hbm, ⟨9, _⟩ => ⟨S1x2048, .f32⟩
  | .hbm, ⟨10, _⟩ => ⟨S2048x384, .bf16⟩
  | .hbm, ⟨11, _⟩ => ⟨S2048x384, .bf16⟩
  | .hbm, ⟨12, _⟩ => ⟨S384x2048, .bf16⟩
  | .hbm, ⟨13, _⟩ => ⟨S1x2048, .f32⟩
  | .hbm, ⟨14, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S2048x384, .bf16⟩
  | .local _ .vmem, ⟨10, _⟩ => ⟨S2048x384, .bf16⟩
  | .local _ .vmem, ⟨11, _⟩ => ⟨S384x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let c10_i32 : BitVec 32 := 10#32
  let v7 : BitVec 1 := Scalar.cmpi .slt arg1 c10_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c10_i32_5 : BitVec 32 := 10#32
  let v11 : BitVec 1 := Scalar.cmpi .eq arg1 c10_i32_5
  let v12 : BitVec 32 := Scalar.extui v11
  let c0_i32_6 : BitVec 32 := 0#32
  let v13 : BitVec 1 := Scalar.cmpi .ne v12 c0_i32_6
  v13

def k0_cond5 (i : grid0.Coords) : BitVec 1 :=
  let arg1 : BitVec 32 := BitVec.ofNat 32 (i 1).val
  let c10_i32_7 : BitVec 32 := 10#32
  let v14 : BitVec 1 := Scalar.cmpi .eq arg1 c10_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S32768x2048 : Shape := ⟨2, ![32768, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5504 : Shape := ⟨2, ![32768, 5504]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S32768x5504, .f32⟩
  | .hbm, ⟨23, _⟩ => ⟨S32768x5504, .f32⟩
  | .hbm, ⟨24, _⟩ => ⟨S32768x5504, .f32⟩
  | .hbm, ⟨25, _⟩ => ⟨S_, .f32⟩
  | .hbm, ⟨26, _⟩ => ⟨S32768x5504, .f32⟩
  | .hbm, ⟨27, _⟩ => ⟨S32768x5504, .f32⟩
  | .hbm, ⟨28, _⟩ => ⟨S_, .f32⟩
  | .hbm, ⟨29, _⟩ => ⟨S32768x5504, .f32⟩
  | .hbm, ⟨30, _⟩ => ⟨S32768x5504, .f32⟩
  | .hbm, ⟨31, _⟩ => ⟨S32768x5504, .f32⟩
  | .hbm, ⟨32, _⟩ => ⟨S32768x5504, .f32⟩
  | .hbm, ⟨33, _⟩ => ⟨S32768x5504, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x2048, .f32⟩
  | .hbm, ⟨51, _⟩ => ⟨S32768x2048, .f32⟩
  | .hbm, ⟨52, _⟩ => ⟨S1x2048, .f32⟩
  | .hbm, ⟨53, _⟩ => ⟨S32768x2048, .f32⟩
  | .hbm, ⟨54, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel3.lean ====
abbrev S32768x2048 : Shape := ⟨2, ![32768, 2048]⟩
abbrev S2048 : Shape := ⟨1, ![2048]⟩
abbrev S2048x5504 : Shape := ⟨2, ![2048, 5504]⟩
abbrev S5504x2048 : Shape := ⟨2, ![5504, 2048]⟩
abbrev S1x2048 : Shape := ⟨2, ![1, 2048]⟩
abbrev S2048x384 : Shape := ⟨2, ![2048, 384]⟩
abbrev S384x2048 : Shape := ⟨2, ![384, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩
abbrev S512x384 : Shape := ⟨2, ![512, 384]⟩

abbrev nBuf : Space → Nat
  | .hbm => 13
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048x5504, .bf16⟩
  | .hbm, ⟨6, _⟩ => ⟨S2048x5504, .bf16⟩
  | .hbm, ⟨7, _⟩ => ⟨S5504x2048, .bf16⟩
  | .hbm, ⟨8, _⟩ => ⟨S1x2048, .f32⟩
  | .hbm, ⟨9, _⟩ => ⟨S2048x384, .bf16⟩
  | .hbm, ⟨10, _⟩ => ⟨S2048x384, .bf16⟩
  | .hbm, ⟨11, _⟩ => ⟨S384x2048, .bf16⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S2048x384, .bf16⟩
  | .local _ .vmem, ⟨10, _⟩ => ⟨S2048x384, .bf16⟩
  | .local _ .vmem, ⟨11, _⟩ => ⟨S384x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let c10_i32 : BitVec 32 := 10#32
  let v7 : BitVec 1 := Scalar.cmpi .slt arg1 c10_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c10_i32_5 : BitVec 32 := 10#32
  let v11 : BitVec 1 := Scalar.cmpi .eq arg1 c10_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S32768x2048 : Shape := ⟨2, ![32768, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5504 : Shape := ⟨2, ![32768, 5504]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x5504, .f32⟩
  | .hbm, ⟨22, _⟩ => ⟨S32768x5504, .f32⟩
  | .hbm, ⟨23, _⟩ => ⟨S32768x5504, .f32⟩
  | .hbm, ⟨24, _⟩ => ⟨S_, .f32⟩
  | .hbm, ⟨25, _⟩ => ⟨S32768x5504, .f32⟩
  | .hbm, ⟨26, _⟩ => ⟨S32768x5504, .f32⟩
  | .hbm, ⟨27, _⟩ => ⟨S_, .f32⟩
  | .hbm, ⟨28, _⟩ => ⟨S32768x5504, .f32⟩
  | .hbm, ⟨29, _⟩ => ⟨S32768x5504, .f32⟩
  | .hbm, ⟨30, _⟩ => ⟨S32768x5504, .f32⟩
  | .hbm, ⟨31, _⟩ => ⟨S32768x5504, .f32⟩
  | .hbm, ⟨32, _⟩ => ⟨S32768x5504, .f32⟩
  | .hbm, ⟨33, _⟩ => ⟨S32768x2048, .f32⟩
  | .hbm, ⟨34, _⟩ => ⟨S_, .f32⟩
  | .hbm, ⟨35, _⟩ => ⟨S32768x2048, .f32⟩
  | .hbm, ⟨36, _⟩ => ⟨S32768x2048, .f32⟩
  | .hbm, ⟨37, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel4.lean ====
abbrev S32768x512 : Shape := ⟨2, ![32768, 512]⟩
abbrev S32768x1536 : Shape := ⟨2, ![32768, 1536]⟩
abbrev S32768x2048 : Shape := ⟨2, ![32768, 2048]⟩
abbrev S1536 : Shape := ⟨1, ![1536]⟩
abbrev S2048x2048 : Shape := ⟨2, ![2048, 2048]⟩
abbrev S512x2048 : Shape := ⟨2, ![512, 2048]⟩
abbrev S1536x2048 : Shape := ⟨2, ![1536, 2048]⟩
abbrev S1x1536 : Shape := ⟨2, ![1, 1536]⟩
abbrev S512x512 : Shape := ⟨2, ![512, 512]⟩
abbrev S512x1536 : Shape := ⟨2, ![512, 1536]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S32768x512, .bf16⟩
  | .hbm, ⟨1, _⟩ => ⟨S32768x1536, .f32⟩
  | .hbm, ⟨2, _⟩ => ⟨S32768x2048, .f32⟩
  | .hbm, ⟨3, _⟩ => ⟨S1536, .f32⟩
  | .hbm, ⟨4, _⟩ => ⟨S2048x2048, .f32⟩
  | .hbm, ⟨5, _⟩ => ⟨S512x2048, .f32⟩
  | .hbm, ⟨6, _⟩ => ⟨S512x2048, .bf16⟩
  | .hbm, ⟨7, _⟩ => ⟨S1536x2048, .f32⟩
  | .hbm, ⟨8, _⟩ => ⟨S1536x2048, .bf16⟩
  | .hbm, ⟨9, _⟩ => ⟨S1x1536, .f32⟩
  | .hbm, ⟨10, _⟩ => ⟨S32768x2048, .f32⟩
  | .local _ .vmem, ⟨0, _⟩ => ⟨S512x512, .bf16⟩
  | .local _ .vmem, ⟨1, _⟩ => ⟨S512x512, .bf16⟩
  | .local _ .vmem, ⟨2, _⟩ => ⟨S512x1536, .f32⟩
  | .local _ .vmem, ⟨3, _⟩ => ⟨S512x1536, .f32⟩
  | .local _ .vmem, ⟨4, _⟩ => ⟨S512x2048, .f32⟩
  | .local _ .vmem, ⟨5, _⟩ => ⟨S512x2048, .f32⟩
  | .local _ .vmem, ⟨6, _⟩ => ⟨S1x1536, .f32⟩
  | .local _ .vmem, ⟨7, _⟩ => ⟨S512x2048, .bf16⟩
  | .local _ .vmem, ⟨8, _⟩ => ⟨S1536x2048, .bf16⟩
  | .local _ .vmem, ⟨9, _⟩ => ⟨S512x2048, .f32⟩
  | .local _ .vmem, ⟨10, _⟩ => ⟨S512x2048, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32768x512 : Shape := ⟨2, ![32768, 512]⟩
abbrev S32768x1536 : Shape := ⟨2, ![32768, 1536]⟩
abbrev S32768x2048 : Shape := ⟨2, ![32768, 2048]⟩
abbrev S1536 : Shape := ⟨1, ![1536]⟩
abbrev S2048x2048 : Shape := ⟨2, ![2048, 2048]⟩
abbrev S_ : Shape := ⟨0, ![]⟩
abbrev S32768 : Shape := ⟨1, ![32768]⟩
abbrev S32768x1 : Shape := ⟨2, ![32768, 1]⟩
abbrev S1x1536 : Shape := ⟨2, ![1, 1536]⟩

abbrev nBuf : Space → Nat
  | .hbm => 25
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x1536, .f32⟩
  | .hbm, ⟨2, _⟩ => ⟨S32768x2048, .f32⟩
  | .hbm, ⟨3, _⟩ => ⟨S1536, .f32⟩
  | .hbm, ⟨4, _⟩ => ⟨S2048x2048, .f32⟩
  | .hbm, ⟨5, _⟩ => ⟨S32768x512, .f32⟩
  | .hbm, ⟨6, _⟩ => ⟨S32768x1536, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1536, .f32⟩
  | .hbm, ⟨18, _⟩ => ⟨S32768x1536, .f32⟩
  | .hbm, ⟨19, _⟩ => ⟨S1x1536, .f32⟩
  | .hbm, ⟨20, _⟩ => ⟨S32768x1536, .f32⟩
  | .hbm, ⟨21, _⟩ => ⟨S32768x1536, .f32⟩
  | .hbm, ⟨22, _⟩ => ⟨S32768x2048, .f32⟩
  | .hbm, ⟨23, _⟩ => ⟨S32768x2048, .f32⟩
  | .hbm, ⟨24, _⟩ => ⟨S32768x2048, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.AttRun.lean ====
module

public import proofs.«01_k».proof.Proof.Gen.KernelIdeal.Frame.Runs

@[expose] public section

set_option maxRecDepth 16384

noncomputable section

namespace Cert.KernelIdeal

open Idealize.ShloMosaic

/-! The parts of the body that name no constant, at any carrier. -/

/-- The printed `k0_part1` is its skeleton. -/
theorem k0_part1_eq_skeleton {F : FTy → Type} [FloatOps F] : k0_part1 (F := F) = Gen.k0_part1_skel (F := F) := rfl

/-- The printed `k0_part2` is its skeleton. -/
theorem k0_part2_eq_skeleton {F : FTy → Type} [FloatOps F] : k0_part2 (F := F) = Gen.k0_part2_skel (F := F) := rfl

/-- The printed `k0_part4` is its skeleton. -/
theorem k0_part4_eq_skeleton {F : FTy → Type} [FloatOps F] : k0_part4 (F := F) = Gen.k0_part4_skel (F := F) := rfl

/-- The printed `k0_part8` is its skeleton. -/
theorem k0_part8_eq_skeleton {F : FTy → Type} [FloatOps F] : k0_part8 (F := F) = Gen.k0_part8_skel (F := F) := rfl

end Cert.KernelIdeal

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The kernel body on whole staging memrefs: with the inputs' memrefs at `x0 … x10`, the output's and the four
    scratch buffers at anything, it ends with the inputs as they were and the output's buffer with the pieces
    `L11` stored (last first). -/
noncomputable def attRun (c : Dev nD) (i : grid0.Coords) (arg3 : Memref sig .tc .vmem S1x4x512x128 .f32) (harg3 : arg3.IsWhole) (arg4 : Memref sig .tc .vmem S1x1x1x8192x256 .bf16) (harg4 : arg4.IsWhole) (arg5 : Memref sig .tc .vmem S1x1x1x8192x256 .bf16) (harg5 : arg5.IsWhole) (arg6 : Memref sig .tc .vmem S1x1x1x512x256 .bf16) (harg6 : arg6.IsWhole) (arg7 : Memref sig .tc .vmem S1x1x1x512x256 .bf16) (harg7 : arg7.IsWhole) (arg8 : Memref sig .tc .vmem S1x1x1x512x256 .bf16) (harg8 : arg8.IsWhole) (arg9 : Memref sig .tc .vmem S1x1x1x512x256 .bf16) (harg9 : arg9.IsWhole) (arg10 : Memref sig .tc .vmem S3x512x512 .f32) (harg10 : arg10.IsWhole) (arg11 : Memref sig .tc .vmem S1x1x512x128 .bf16) (harg11 : arg11.IsWhole) (arg12 : Memref sig .tc .vmem S1x4x512x128 .f32) (harg12 : arg12.IsWhole) (arg13 : Memref sig .tc .vmem S1x1x512x128 .f32) (harg13 : arg13.IsWhole) (arg14 : Memref sig .tc .vmem S1x512x512 .f32) (harg14 : arg14.IsWhole) (arg15 : Memref sig .tc .vmem S2048x256 .bf16) (harg15 : arg15.IsWhole) (arg16 : Memref sig .tc .vmem S2048x512 .f32) (harg16 : arg16.IsWhole) (arg17 : Memref sig .tc .vmem S2x2048x128 .f32) (harg17 : arg17.IsWhole) (arg18 : Memref sig .tc .vmem S2x2048x256 .f32) (harg18 : arg18.IsWhole)
    (x0 : Vec F S1x4x512x128 .f32) (x1 : Vec F S1x1x1x8192x256 .bf16) (x2 : Vec F S1x1x1x8192x256 .bf16) (x3 : Vec F S1x1x1x512x256 .bf16) (x4 : Vec F S1x1x1x512x256 .bf16) (x5 : Vec F S1x1x1x512x256 .bf16) (x6 : Vec F S1x1x1x512x256 .bf16) (x7 : Vec F S3x512x512 .f32) (x8 : Vec F S1x1x512x128 .bf16) (x9 : Vec F S1x4x512x128 .f32) (x10 : Vec F S1x1x512x128 .f32) :
    { L11 : List (View.Piece (Elt F) S1x512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L11) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_attend i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_attend_eq_skeleton]; unfold cc0_attend_skel
    simp only [k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.AttFrame.lean ====
module

public import proofs.«01_k».proof.Proof.AttRun
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The four pieces the run stores tile the output's block, so they cover it. -/
theorem cover0_A_11 (c : Dev nD) (i : grid0.Coords) (arg3 : Memref sig .tc .vmem S1x4x512x128 .f32) (harg3 : arg3.IsWhole) (arg4 : Memref sig .tc .vmem S1x1x1x8192x256 .bf16) (harg4 : arg4.IsWhole) (arg5 : Memref sig .tc .vmem S1x1x1x8192x256 .bf16) (harg5 : arg5.IsWhole) (arg6 : Memref sig .tc .vmem S1x1x1x512x256 .bf16) (harg6 : arg6.IsWhole) (arg7 : Memref sig .tc .vmem S1x1x1x512x256 .bf16) (harg7 : arg7.IsWhole) (arg8 : Memref sig .tc .vmem S1x1x1x512x256 .bf16) (harg8 : arg8.IsWhole) (arg9 : Memref sig .tc .vmem S1x1x1x512x256 .bf16) (harg9 : arg9.IsWhole) (arg10 : Memref sig .tc .vmem S3x512x512 .f32) (harg10 : arg10.IsWhole) (arg11 : Memref sig .tc .vmem S1x1x512x128 .bf16) (harg11 : arg11.IsWhole) (arg12 : Memref sig .tc .vmem S1x4x512x128 .f32) (harg12 : arg12.IsWhole) (arg13 : Memref sig .tc .vmem S1x1x512x128 .f32) (harg13 : arg13.IsWhole) (arg14 : Memref sig .tc .vmem S1x512x512 .f32) (harg14 : arg14.IsWhole) (arg15 : Memref sig .tc .vmem S2048x256 .bf16) (harg15 : arg15.IsWhole) (arg16 : Memref sig .tc .vmem S2048x512 .f32) (harg16 : arg16.IsWhole) (arg17 : Memref sig .tc .vmem S2x2048x128 .f32) (harg17 : arg17.IsWhole) (arg18 : Memref sig .tc .vmem S2x2048x256 .f32) (harg18 : arg18.IsWhole)
    (x0 : Vec F S1x4x512x128 .f32) (x1 : Vec F S1x1x1x8192x256 .bf16) (x2 : Vec F S1x1x1x8192x256 .bf16) (x3 : Vec F S1x1x1x512x256 .bf16) (x4 : Vec F S1x1x1x512x256 .bf16) (x5 : Vec F S1x1x1x512x256 .bf16) (x6 : Vec F S1x1x1x512x256 .bf16) (x7 : Vec F S3x512x512 .f32) (x8 : Vec F S1x1x512x128 .bf16) (x9 : Vec F S1x4x512x128 .f32) (x10 : Vec F S1x1x512x128 .f32) (y : S1x512x512.Idx) :
    ∃ pc ∈ (attRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).1, y ∈ pc.1.set :=
  View.cover_of_tiledL (attRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).1 S1x512x128.size (by sl_kernel_rfl) y

/-- What the run leaves in output 11's staging buffer: its pieces read back over junk. -/
def out0_A_11 (c : Dev nD) (i : grid0.Coords) (arg3 : Memref sig .tc .vmem S1x4x512x128 .f32) (harg3 : arg3.IsWhole) (arg4 : Memref sig .tc .vmem S1x1x1x8192x256 .bf16) (harg4 : arg4.IsWhole) (arg5 : Memref sig .tc .vmem S1x1x1x8192x256 .bf16) (harg5 : arg5.IsWhole) (arg6 : Memref sig .tc .vmem S1x1x1x512x256 .bf16) (harg6 : arg6.IsWhole) (arg7 : Memref sig .tc .vmem S1x1x1x512x256 .bf16) (harg7 : arg7.IsWhole) (arg8 : Memref sig .tc .vmem S1x1x1x512x256 .bf16) (harg8 : arg8.IsWhole) (arg9 : Memref sig .tc .vmem S1x1x1x512x256 .bf16) (harg9 : arg9.IsWhole) (arg10 : Memref sig .tc .vmem S3x512x512 .f32) (harg10 : arg10.IsWhole) (arg11 : Memref sig .tc .vmem S1x1x512x128 .bf16) (harg11 : arg11.IsWhole) (arg12 : Memref sig .tc .vmem S1x4x512x128 .f32) (harg12 : arg12.IsWhole) (arg13 : Memref sig .tc .vmem S1x1x512x128 .f32) (harg13 : arg13.IsWhole) (arg14 : Memref sig .tc .vmem S1x512x512 .f32) (harg14 : arg14.IsWhole) (arg15 : Memref sig .tc .vmem S2048x256 .bf16) (harg15 : arg15.IsWhole) (arg16 : Memref sig .tc .vmem S2048x512 .f32) (harg16 : arg16.IsWhole) (arg17 : Memref sig .tc .vmem S2x2048x128 .f32) (harg17 : arg17.IsWhole) (arg18 : Memref sig .tc .vmem S2x2048x256 .f32) (harg18 : arg18.IsWhole)
    (x0 : Vec F S1x4x512x128 .f32) (x1 : Vec F S1x1x1x8192x256 .bf16) (x2 : Vec F S1x1x1x8192x256 .bf16) (x3 : Vec F S1x1x1x512x256 .bf16) (x4 : Vec F S1x1x1x512x256 .bf16) (x5 : Vec F S1x1x1x512x256 .bf16) (x6 : Vec F S1x1x1x512x256 .bf16) (x7 : Vec F S3x512x512 .f32) (x8 : Vec F S1x1x512x128 .bf16) (x9 : Vec F S1x4x512x128 .f32) (x10 : Vec F S1x1x512x128 .f32) : Vec F S1x512x512 .f32 :=
  VO0_11.read (Elt F) (VO0_11.writes (Elt F) VO0_11.junk (attRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).1)

/-! ## What the outputs hold after each point -/

/-- What the outputs' staging buffers hold after the body at point `t`: the run's contents at
    the point's memrefs and input blocks. -/
def outsAt0 (c : Dev nD) (t : Fin cfg0.N) : Vec F S1x512x512 .f32 :=
  out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-! ## The pipeline's proof data -/

/-- The proof data of the pipeline on core `c`: the arrays as the region finds them; after the body at point `t`
    each input's buffer at its block and the output's at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t)
  Φ _ := Pipeline.ΦA spec0 c
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1600000 in
/-- The body at any point: the inputs' memrefs hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  unfold outsAt0
  unfold out0_A_11
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((attRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, H8, H9, H10, ⟨%e11, H11⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run of the program terminates with the arrays at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- `run_main_quiescent` without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame claim of the idealized program: every run terminates, the arguments end unchanged and every counter
    is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.AttBlocks.lean ====
module

public import proofs.«01_k».proof.Proof.AttFrame
public import Idealize.ShloMosaic.Lib.Pipeline.Value

@[expose] public section

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 11's array: the run's contents for that window after the body (`Gen.outsAt0`), read through the window's block. -/
theorem flushed11 (c : Dev nD) (t : Fin cfg0.N) :
    (dats m 0 c).flushed 11 t = (cfg0.win 11).cut (grid0.coords t) (outsAt0 m c t) := by
  show (cfg0.win 11).cut (grid0.coords t) ((dats m 0 c).after 11 t) = _
  rw [after0_11]

/-- The index map sends distinct grid points to distinct block indices. -/
theorem idx_inj11 : ∀ t t' : Fin cfg0.N, win0_11.index t = win0_11.index t' → t = t' :=
  (by decide +kernel : ∀ t t' : Fin grid0.N, win0_11.index t = win0_11.index t' → t = t')

/-- So two flushing points' blocks share no array index. -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S4x8192x1536.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v52) = (dats m 0 c).arrAt 11 cfg0.N :=
  (h c).1 11

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 9 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 9).trans (((dats m 0 c).arrAt_in 9 rfl _).trans ((A_eq m c 9).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v52) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post11 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Blocks

end
-- ==== Proof.AttRead.lean ====
module

public import proofs.«01_k».proof.Proof.AttFrame
public import Idealize.ShloMosaic.Lib.ValueIdxCore
public import Idealize.ShloMosaic.Lib.LoopRemainder
public import Idealize.ShloMosaic.Lib.VecWindow
public import Idealize.ShloMosaic.Lib.Pipeline.ReadBack

/-! What the run of the idealized body leaves, read back: the loop over the earlier key blocks as a recursion on the
    running maxima and the accumulators, and the four stored pieces as functions of the operands' blocks. -/

@[expose] public section

set_option maxRecDepth 16384

noncomputable section

namespace Cert.KernelIdeal.Att

open Idealize.ShloMosaic Idealize.ShloMosaic.TcCoe Idealize.ShloMosaic.ValueIdx
open Cert.KernelIdeal.Gen

variable {F : FTy → Type} [FloatOps F] [Named F]

/-- The 512 rows of `x` from row `o` on. -/
def rows (x : Vec F S1x1x1x8192x256 .bf16) (o : ℕ) : Vec F S1x1x1x512x256 .bf16 :=
  fun y => x (ix5 0 0 0 ⟨(o + (y 3).val) % 8192, Nat.mod_lt _ (by decide)⟩ (y 4))

/-- One layer of `x`, as the kernel loads it. -/
def layer (x : Vec F S3x512x512 .f32) (k : Fin 3) : Vec F S1x512x512 .f32 := fun y => x (ix3 k (y 1) (y 2))

/-- The augmented queries: the scaled query in columns 0 to 127, the unselected blocks' mask in the others. -/
def qa (x0 : Vec F S1x4x512x128 .f32) (x8 : Vec F S1x1x512x128 .bf16) : Vec F S2048x256 .bf16 :=
  View.canon [⟨Rect.unit (s := S2048x256) ![0, 128] S2048x128.size inb_S2048x256_S2048x128_0_128, k0_pay12 x8⟩,
    ⟨Rect.unit (s := S2048x256) ![0, 0] S2048x128.size inb_S2048x256_S2048x128_0_0, k0_pay11 x0⟩]

/-- A score block with the causal mask added. -/
def msk (s : Vec F S2048x512 .f32) (tri : Vec F S1x512x512 .f32) : Vec F S2048x512 .f32 := k0_pay19 (k0_pay18 s) tri

/-- The running maximum's and the accumulator's first contents. -/
def m0 : Vec F S1x2048x128 .f32 := fun y => k0_pay13 (ix3 0 (y 1) (y 2))
@[inherit_doc m0] def a0 : Vec F S1x2048x256 .f32 := fun y => k0_pay14 (ix3 0 (y 1) (y 2))

/-- The running maximum and the accumulator after the key blocks before `k`. -/
def st (q : Vec F S2048x256 .bf16) (x1 x2 : Vec F S1x1x1x8192x256 .bf16) : ℕ → Vec F S1x2048x128 .f32 × Vec F S1x2048x256 .f32
  | 0 => (m0, a0)
  | k + 1 => (k0_pay6 (k0_pay15 q (rows x1 (512 * k))) (st q x1 x2 k).1,
      k0_pay5 (k0_pay15 q (rows x1 (512 * k))) (st q x1 x2 k).1 (rows x2 (512 * k)) (st q x1 x2 k).2)

/-! ## Reads after stores -/

section Reads
variable {sig' : RefSig} {κ' : Kind} {sp : Space} {s : Shape} {e : EltTy} {Val : EltTy → Type}

/-- A load through the last store's own rectangle reads its payload. -/
theorem readAt_cons_same (v : View sig' κ' sp s e) (f : v.ty.Contents Val) (r : Rect s) (w : r.shape.Idx → Val e)
    (L : List (View.Piece Val s e)) : v.readAt Val r.toLoadRect (v.writes Val f (⟨r, w⟩ :: L)) = w := by
  funext j
  exact View.read_writes_cons_emb v f r w L j

/-- A load off the last store's rectangle reads the earlier stores. -/
theorem readAt_cons_off (v : View sig' κ' sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) := by
  funext j
  have hj : B.idx j ∉ Finset.univ.map r.emb := by rw [Rect.map_emb_univ]; exact LoadRect.idx_not_mem_of_disj h j
  rw [View.readAt_apply, View.readAt_apply, View.writes_cons, View.read_slice_write_of_not_mem r _ _ _ hj]

end Reads

/-! ## The grid point's words -/

/-- A grid point with the query block's index `n`. -/
def co (n : Fin 16) : grid0.Coords := fun a => match a with
  | ⟨0, _⟩ => (0 : Fin 4)
  | ⟨1, _⟩ => (0 : Fin 3)
  | ⟨2, _⟩ => n

/-- The loop over the earlier key blocks makes as many trips as the query block's index. -/
theorem trips1 (i : grid0.Coords) : (k0_t1_loop i).trips = (i 2).val := by
  have h : ∀ n : Fin 16, (k0_t1_loop (co n)).trips = n.val := by decide +kernel
  exact h (i 2)

/-- The second counted loop makes no trip. -/
theorem trips2 (i : grid0.Coords) : (k0_t2_loop i).trips = 0 := Scf.rem_trips _ _

theorem off1_eq (i : grid0.Coords) (k : Fin (k0_t1_loop i).trips) : k0_off1 i k = ![0, 0, 0, 512 * k.val, 0] := by
  have hk : k.val < 16 := by have := trips1 i; have := (i 2).isLt; have : k.val < (i 2).val := by omega
                             exact lt_trans this ‹(i 2).val < 16›
  have h : ∀ n : Fin 16, (Scalar.indexCast (Scalar.muli (Scf.iv (0#32) (1#32) n.val) 512#32) : Index).toNat = 512 * n.val := by decide +kernel
  unfold k0_off1
  exact congrArg (fun n => (![0, 0, 0, n, 0] : Fin 5 → ℕ)) (h ⟨k.val, hk⟩)

theorem off2_eq (i : grid0.Coords) (k : Fin (k0_t1_loop i).trips) : k0_off2 i k = ![0, 0, 0, 512 * (k.val + 1), 0] := by
  have hk : k.val < 16 := by have := trips1 i; have := (i 2).isLt; have : k.val < (i 2).val := by omega
                             exact lt_trans this ‹(i 2).val < 16›
  have h : ∀ n : Fin 16, (Scalar.indexCast (Scalar.muli (Scalar.addi (Scf.iv (0#32) (1#32) n.val) 1#32) 512#32) : Index).toNat = 512 * (n.val + 1) := by decide +kernel
  unfold k0_off2
  exact congrArg (fun n => (![0, 0, 0, n, 0] : Fin 5 → ℕ)) (h ⟨k.val, hk⟩)

theorem off5_eq (i : grid0.Coords) : k0_off5 i = ![0, 0, 0, 512 * (i 2).val, 0] := by
  have h : ∀ n : Fin 16, k0_off5 (co n) = ![0, 0, 0, 512 * n.val, 0] := by decide +kernel
  exact h (i 2)

/-- The layer of the triangle the window's earlier block takes: the second, the third where there is no earlier block. -/
def oldKind (n : ℕ) : Fin 3 := if 0 < n then 1 else 2

theorem off6_eq (i : grid0.Coords) : k0_off6 i = ![(oldKind (i 2).val).val, 0, 0] := by
  have h : ∀ n : Fin 16, k0_off6 (co n) = ![(oldKind n.val).val, 0, 0] := by decide +kernel
  exact h (i 2)

/-! ## Loads of the operands' blocks -/

/-- A load of 512 rows at row `o`. -/
theorem readAt_rows {sp : Space} (v : View sig .tc sp S1x1x1x8192x256 .bf16) (X : v.ty.Contents (Elt F)) (x : Vec F S1x1x1x8192x256 .bf16)
    (hX : v.read (Elt F) X = x) (off : Fin 5 → ℕ) (o : ℕ) (ho : off = ![0, 0, 0, o, 0]) (inb : ∀ a, off a + S1x1x1x512x256.size a ≤ S1x1x1x8192x256.size a) :
    v.readAt (Elt F) (Rect.unit (s := S1x1x1x8192x256) off S1x1x1x512x256.size inb).toLoadRect X = rows x o := by
  subst ho hX
  funext y
  have h3 : o + 512 ≤ 8192 := inb 3
  have hy3 : (y 3).val < 512 := (y 3).isLt
  have hy0 : (y 0).val < 1 := (y 0).isLt
  have hy1 : (y 1).val < 1 := (y 1).isLt
  have hy2 : (y 2).val < 1 := (y 2).isLt
  refine congrArg (v.read (Elt F) X) (funext fun a => Fin.ext ?_)
  match a with
  | ⟨0, _⟩ => show 0 + 1 * (y 0).val = 0; omega
  | ⟨1, _⟩ => show 0 + 1 * (y 1).val = 0; omega
  | ⟨2, _⟩ => show 0 + 1 * (y 2).val = 0; omega
  | ⟨3, _⟩ => show o + 1 * (y 3).val = (o + (y 3).val) % 8192; rw [Nat.mod_eq_of_lt (by omega)]; omega
  | ⟨4, _⟩ => show 0 + 1 * (y 4).val = (y 4).val; omega

/-- A load of one layer. -/
theorem readAt_layer {sp : Space} (v : View sig .tc sp S3x512x512 .f32) (X : v.ty.Contents (Elt F)) (x : Vec F S3x512x512 .f32)
    (hX : v.read (Elt F) X = x) (off : Fin 3 → ℕ) (k : Fin 3) (ho : off = ![k.val, 0, 0]) (inb : ∀ a, off a + S1x512x512.size a ≤ S3x512x512.size a) :
    v.readAt (Elt F) (Rect.unit (s := S3x512x512) off S1x512x512.size inb).toLoadRect X = layer x k := by
  subst ho hX
  funext y
  have hy0 : (y 0).val < 1 := (y 0).isLt
  refine congrArg (v.read (Elt F) X) (funext fun a => Fin.ext ?_)
  match a with
  | ⟨0, _⟩ => show k.val + 1 * (y 0).val = k.val; omega
  | ⟨1, _⟩ => show 0 + 1 * (y 1).val = (y 1).val; omega
  | ⟨2, _⟩ => show 0 + 1 * (y 2).val = (y 2).val; omega

section Run
variable (c : Dev nD) (i : grid0.Coords)
  (arg3 : Memref sig .tc .vmem S1x4x512x128 .f32) (harg3 : arg3.IsWhole)
  (arg4 : Memref sig .tc .vmem S1x1x1x8192x256 .bf16) (harg4 : arg4.IsWhole)
  (arg5 : Memref sig .tc .vmem S1x1x1x8192x256 .bf16) (harg5 : arg5.IsWhole)
  (arg6 : Memref sig .tc .vmem S1x1x1x512x256 .bf16) (harg6 : arg6.IsWhole)
  (arg7 : Memref sig .tc .vmem S1x1x1x512x256 .bf16) (harg7 : arg7.IsWhole)
  (arg8 : Memref sig .tc .vmem S1x1x1x512x256 .bf16) (harg8 : arg8.IsWhole)
  (arg9 : Memref sig .tc .vmem S1x1x1x512x256 .bf16) (harg9 : arg9.IsWhole)
  (arg10 : Memref sig .tc .vmem S3x512x512 .f32) (harg10 : arg10.IsWhole)
  (arg11 : Memref sig .tc .vmem S1x1x512x128 .bf16) (harg11 : arg11.IsWhole)
  (arg12 : Memref sig .tc .vmem S1x4x512x128 .f32) (harg12 : arg12.IsWhole)
  (arg13 : Memref sig .tc .vmem S1x1x512x128 .f32) (harg13 : arg13.IsWhole)
  (arg14 : Memref sig .tc .vmem S1x512x512 .f32) (harg14 : arg14.IsWhole)
  (arg15 : Memref sig .tc .vmem S2048x256 .bf16) (harg15 : arg15.IsWhole)
  (arg16 : Memref sig .tc .vmem S2048x512 .f32) (harg16 : arg16.IsWhole)
  (arg17 : Memref sig .tc .vmem S2x2048x128 .f32) (harg17 : arg17.IsWhole)
  (arg18 : Memref sig .tc .vmem S2x2048x256 .f32) (harg18 : arg18.IsWhole)

/-- One trip's pieces, at any contents. -/
theorem trip_eq (v0 c512 v28 : BitVec 32) (X4 : BufTy.Contents (Elt F) arg4.view.ty) (X5 : BufTy.Contents (Elt F) arg5.view.ty)
    (X15 : BufTy.Contents (Elt F) arg15.view.ty) (k : Fin (k0_t1_loop i).trips) (f16 : BufTy.Contents (Elt F) arg16.view.ty)
    (f17 : BufTy.Contents (Elt F) arg17.view.ty) (f18 : BufTy.Contents (Elt F) arg18.view.ty) :
    tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 c512 v28 X4 X5 X15 k f16 f17 f18
      = ([⟨Rect.unit (s := S2048x512) ![0, 0] S2048x512.size inb_S2048x512_S2048x512_0_0,
            k0_pay15 (arg15.view.readAt (Elt F) (Rect.unit (s := S2048x256) ![0, 0] S2048x256.size inb_S2048x256_S2048x256_0_0).toLoadRect X15)
              (arg4.view.readAt (Elt F) (Rect.unit (s := S1x1x1x8192x256) (k0_off2 i k) S1x1x1x512x256.size (k0_off2_inb i k)).toLoadRect X4)⟩],
         [⟨Rect.unit (s := S2x2048x128) ![0, 0, 0] S1x2048x128.size inb_S2x2048x128_S1x2048x128_0_0_0,
            k0_pay6 (arg16.view.readAt (Elt F) (Rect.unit (s := S2048x512) ![0, 0] S2048x512.size inb_S2048x512_S2048x512_0_0).toLoadRect f16)
              (arg17.view.readAt (Elt F) (Rect.unit (s := S2x2048x128) ![0, 0, 0] S1x2048x128.size inb_S2x2048x128_S1x2048x128_0_0_0).toLoadRect f17)⟩],
         [⟨Rect.unit (s := S2x2048x256) ![0, 0, 0] S1x2048x256.size inb_S2x2048x256_S1x2048x256_0_0_0,
            k0_pay5 (arg16.view.readAt (Elt F) (Rect.unit (s := S2048x512) ![0, 0] S2048x512.size inb_S2048x512_S2048x512_0_0).toLoadRect f16)
              (arg17.view.readAt (Elt F) (Rect.unit (s := S2x2048x128) ![0, 0, 0] S1x2048x128.size inb_S2x2048x128_S1x2048x128_0_0_0).toLoadRect f17)
              (arg5.view.readAt (Elt F) (Rect.unit (s := S1x1x1x8192x256) (k0_off1 i k) S1x1x1x512x256.size (k0_off1_inb i k)).toLoadRect X5)
              (arg18.view.readAt (Elt F) (Rect.unit (s := S2x2048x256) ![0, 0, 0] S1x2048x256.size inb_S2x2048x256_S1x2048x256_0_0_0).toLoadRect f18)⟩]) := by
  unfold tripL_k0_t1 trip_k0_t1
  rfl

/-- The reads after `k` trips: the score block of key block `k`, the running maximum and accumulator of the blocks
    before it, and the second slots as they were. -/
theorem loop_reads (v0 c512 v28 : BitVec 32) (X4 : BufTy.Contents (Elt F) arg4.view.ty) (X5 : BufTy.Contents (Elt F) arg5.view.ty)
    (X15 : BufTy.Contents (Elt F) arg15.view.ty) (G16 : BufTy.Contents (Elt F) arg16.view.ty)
    (G17 : BufTy.Contents (Elt F) arg17.view.ty) (G18 : BufTy.Contents (Elt F) arg18.view.ty)
    (q : Vec F S2048x256 .bf16) (x1 x2 : Vec F S1x1x1x8192x256 .bf16)
    (hX4 : arg4.view.read (Elt F) X4 = x1) (hX5 : arg5.view.read (Elt F) X5 = x2)
    (hq : arg15.view.readAt (Elt F) (Rect.unit (s := S2048x256) ![0, 0] S2048x256.size inb_S2048x256_S2048x256_0_0).toLoadRect X15 = q)
    (h16 : arg16.view.readAt (Elt F) (Rect.unit (s := S2048x512) ![0, 0] S2048x512.size inb_S2048x512_S2048x512_0_0).toLoadRect G16 = k0_pay15 q (rows x1 0))
    (h17 : arg17.view.readAt (Elt F) (Rect.unit (s := S2x2048x128) ![0, 0, 0] S1x2048x128.size inb_S2x2048x128_S1x2048x128_0_0_0).toLoadRect G17 = m0)
    (h18 : arg18.view.readAt (Elt F) (Rect.unit (s := S2x2048x256) ![0, 0, 0] S1x2048x256.size inb_S2x2048x256_S1x2048x256_0_0_0).toLoadRect G18 = a0)
    (k : ℕ) (hk : k ≤ (k0_t1_loop i).trips) :
    arg16.view.readAt (Elt F) (Rect.unit (s := S2048x512) ![0, 0] S2048x512.size inb_S2048x512_S2048x512_0_0).toLoadRect
        (arg16.view.writes (Elt F) G16 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 c512 v28 X4 X5 X15 G16 G17 G18 k).1) = k0_pay15 q (rows x1 (512 * k))
    ∧ arg17.view.readAt (Elt F) (Rect.unit (s := S2x2048x128) ![0, 0, 0] S1x2048x128.size inb_S2x2048x128_S1x2048x128_0_0_0).toLoadRect
        (arg17.view.writes (Elt F) G17 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 c512 v28 X4 X5 X15 G16 G17 G18 k).2.1) = (st q x1 x2 k).1
    ∧ arg18.view.readAt (Elt F) (Rect.unit (s := S2x2048x256) ![0, 0, 0] S1x2048x256.size inb_S2x2048x256_S1x2048x256_0_0_0).toLoadRect
        (arg18.view.writes (Elt F) G18 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 c512 v28 X4 X5 X15 G16 G17 G18 k).2.2) = (st q x1 x2 k).2
    ∧ arg17.view.readAt (Elt F) (Rect.unit (s := S2x2048x128) ![1, 0, 0] S1x2048x128.size inb_S2x2048x128_S1x2048x128_1_0_0).toLoadRect
        (arg17.view.writes (Elt F) G17 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 c512 v28 X4 X5 X15 G16 G17 G18 k).2.1)
        = arg17.view.readAt (Elt F) (Rect.unit (s := S2x2048x128) ![1, 0, 0] S1x2048x128.size inb_S2x2048x128_S1x2048x128_1_0_0).toLoadRect G17
    ∧ arg18.view.readAt (Elt F) (Rect.unit (s := S2x2048x256) ![1, 0, 0] S1x2048x256.size inb_S2x2048x256_S1x2048x256_1_0_0).toLoadRect
        (arg18.view.writes (Elt F) G18 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 c512 v28 X4 X5 X15 G16 G17 G18 k).2.2)
        = arg18.view.readAt (Elt F) (Rect.unit (s := S2x2048x256) ![1, 0, 0] S1x2048x256.size inb_S2x2048x256_S1x2048x256_1_0_0).toLoadRect G18 := by
  induction k with
  | zero => exact ⟨h16, h17, h18, rfl, rfl⟩
  | succ k ih =>
    obtain ⟨i16, i17, i18, j17, j18⟩ := ih (by omega)
    have e := pb_k0_t1_succ (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 c512 v28 X4 X5 X15 G16 G17 G18 ⟨k, by omega⟩
    rw [trip_eq] at e
    rw [i16, i17, i18, hq, readAt_rows _ _ _ hX4 _ _ (off2_eq i ⟨k, by omega⟩), readAt_rows _ _ _ hX5 _ _ (off1_eq i ⟨k, by omega⟩)] at e
    rw [e]
    refine ⟨?_, ?_, ?_, ?_, ?_⟩
    · exact readAt_cons_same _ _ _ _ _
    · exact readAt_cons_same _ _ _ _ _
    · exact readAt_cons_same _ _ _ _ _
    · exact (readAt_cons_off _ _ _ _ _ _ (by decide +kernel)).trans j17
    · exact (readAt_cons_off _ _ _ _ _ _ (by decide +kernel)).trans j18

end Run

end Cert.KernelIdeal.Att

end
-- ==== Proof.AttOut.lean ====
module

public import proofs.«01_k».proof.Proof.AttRead

/-! The four pieces the run of the idealized body stores, as functions of the operands' blocks. -/

@[expose] public section

set_option maxRecDepth 16384

noncomputable section

namespace Cert.KernelIdeal.Att

open Idealize.ShloMosaic Idealize.ShloMosaic.TcCoe Idealize.ShloMosaic.ValueIdx
open Cert.KernelIdeal.Gen

variable {F : FTy → Type} [FloatOps F] [Named F]

/-- The layer of the window's earlier block. -/
def oldTri (x7 : Vec F S3x512x512 .f32) (n : ℕ) : Vec F S1x512x512 .f32 := layer x7 (oldKind n)

/-- The selected branch's accumulator at the end: the last key block with the causal triangle. -/
def slcAcc (q : Vec F S2048x256 .bf16) (x1 x2 : Vec F S1x1x1x8192x256 .bf16) (x7 : Vec F S3x512x512 .f32) (n : ℕ) : Vec F S1x2048x256 .f32 :=
  k0_pay5 (msk (k0_pay15 q (rows x1 (512 * n))) (layer x7 0)) (st q x1 x2 n).1 (rows x2 (512 * n)) (st q x1 x2 n).2

/-- The window branch's accumulator at the end: the earlier block, then the query block's own. -/
def winAcc (q : Vec F S2048x256 .bf16) (x3 x4 x5 x6 : Vec F S1x1x1x512x256 .bf16) (x7 : Vec F S3x512x512 .f32) (n : ℕ) : Vec F S1x2048x256 .f32 :=
  k0_pay5 (msk (k0_pay15 q x5) (layer x7 0)) (k0_pay6 (msk (k0_pay15 q x3) (oldTri x7 n)) m0) x6
    (k0_pay5 (msk (k0_pay15 q x3) (oldTri x7 n)) m0 x4 a0)

/-- The rows of the result. -/
def outRows (x0 : Vec F S1x4x512x128 .f32) (x1 x2 : Vec F S1x1x1x8192x256 .bf16) (x3 x4 x5 x6 : Vec F S1x1x1x512x256 .bf16)
    (x7 : Vec F S3x512x512 .f32) (x8 : Vec F S1x1x512x128 .bf16) (x9 : Vec F S1x4x512x128 .f32) (x10 : Vec F S1x1x512x128 .f32) (n : ℕ) : FVec F S2048x128 .f32 :=
  k0_pay39 (k0_pay37 x10) (k0_pay38 x10) x9 (slcAcc (qa x0 x8) x1 x2 x7 n) (winAcc (qa x0 x8) x3 x4 x5 x6 x7 n)

/-- The whole of an operand's block as the kernel loads it. -/
theorem readAt_whole {sp : Space} {s : Shape} {e : EltTy} (a : Memref sig .tc sp s e) (h : a.IsWhole) (x : s.Idx → Elt F e) {off : Fin s.rank → ℕ}
    (inb : ∀ a, off a + s.size a ≤ s.size a) :
    a.view.readAt (Elt F) (Rect.unit off s.size inb).toLoadRect (h.unread x) = x := by
  rw [View.readAt_full, Memref.IsWhole.read_unread]

/-- A load after a store of the whole buffer reads that store. -/
theorem readAt_whole_store {κ' : Kind} {sp : Space} {s : Shape} {e : EltTy} {Val : EltTy → Type} [∀ e, Nonempty (Val e)] (v : View sig κ' sp s e) {off : Fin s.rank → ℕ} (inb : ∀ a, off a + s.size a ≤ s.size a)
    (w : s.Idx → Val e) (B : LoadRect s) :
    v.readAt Val B (v.writes Val v.junk [⟨Rect.unit off s.size inb, w⟩]) = fun j => w (B.idx j) := by
  funext j
  rw [View.readAt_apply, View.read_writes_junk_apply_eq_canon]
  have h0 : off = fun _ => 0 := by funext a; have := inb a; omega
  rw [View.canon_cons_unit_zero h0]

section T2
variable (c : Dev nD) (i : grid0.Coords)
  (arg3 : Memref sig .tc .vmem S1x4x512x128 .f32) (harg3 : arg3.IsWhole)
  (arg4 : Memref sig .tc .vmem S1x1x1x8192x256 .bf16) (harg4 : arg4.IsWhole)
  (arg5 : Memref sig .tc .vmem S1x1x1x8192x256 .bf16) (harg5 : arg5.IsWhole)
  (arg6 : Memref sig .tc .vmem S1x1x1x512x256 .bf16) (harg6 : arg6.IsWhole)
  (arg7 : Memref sig .tc .vmem S1x1x1x512x256 .bf16) (harg7 : arg7.IsWhole)
  (arg8 : Memref sig .tc .vmem S1x1x1x512x256 .bf16) (harg8 : arg8.IsWhole)
  (arg9 : Memref sig .tc .vmem S1x1x1x512x256 .bf16) (harg9 : arg9.IsWhole)
  (arg10 : Memref sig .tc .vmem S3x512x512 .f32) (harg10 : arg10.IsWhole)
  (arg11 : Memref sig .tc .vmem S1x1x512x128 .bf16) (harg11 : arg11.IsWhole)
  (arg12 : Memref sig .tc .vmem S1x4x512x128 .f32) (harg12 : arg12.IsWhole)
  (arg13 : Memref sig .tc .vmem S1x1x512x128 .f32) (harg13 : arg13.IsWhole)
  (arg14 : Memref sig .tc .vmem S1x512x512 .f32) (harg14 : arg14.IsWhole)
  (arg15 : Memref sig .tc .vmem S2048x256 .bf16) (harg15 : arg15.IsWhole)
  (arg16 : Memref sig .tc .vmem S2048x512 .f32) (harg16 : arg16.IsWhole)
  (arg17 : Memref sig .tc .vmem S2x2048x128 .f32) (harg17 : arg17.IsWhole)
  (arg18 : Memref sig .tc .vmem S2x2048x256 .f32) (harg18 : arg18.IsWhole)
/-- The second loop stores nothing. -/
theorem t2_nil (a1 a2 a3 a4 : BitVec 32) (X4 : BufTy.Contents (Elt F) arg4.view.ty) (X5 : BufTy.Contents (Elt F) arg5.view.ty)
    (X15 : BufTy.Contents (Elt F) arg15.view.ty) (G16 : BufTy.Contents (Elt F) arg16.view.ty)
    (G17 : BufTy.Contents (Elt F) arg17.view.ty) (G18 : BufTy.Contents (Elt F) arg18.view.ty) :
    pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a1 a2 a3 a4 X4 X5 X15 G16 G17 G18 (Scf.trips (k0_t2_loop i).lb (k0_t2_loop i).ub (k0_t2_loop i).st) = ([], [], []) := by
  rw [show Scf.trips (k0_t2_loop i).lb (k0_t2_loop i).ub (k0_t2_loop i).st = 0 from trips2 i]
  rfl

end T2
section Run
variable (c : Dev nD) (i : grid0.Coords)
  (arg3 : Memref sig .tc .vmem S1x4x512x128 .f32) (harg3 : arg3.IsWhole)
  (arg4 : Memref sig .tc .vmem S1x1x1x8192x256 .bf16) (harg4 : arg4.IsWhole)
  (arg5 : Memref sig .tc .vmem S1x1x1x8192x256 .bf16) (harg5 : arg5.IsWhole)
  (arg6 : Memref sig .tc .vmem S1x1x1x512x256 .bf16) (harg6 : arg6.IsWhole)
  (arg7 : Memref sig .tc .vmem S1x1x1x512x256 .bf16) (harg7 : arg7.IsWhole)
  (arg8 : Memref sig .tc .vmem S1x1x1x512x256 .bf16) (harg8 : arg8.IsWhole)
  (arg9 : Memref sig .tc .vmem S1x1x1x512x256 .bf16) (harg9 : arg9.IsWhole)
  (arg10 : Memref sig .tc .vmem S3x512x512 .f32) (harg10 : arg10.IsWhole)
  (arg11 : Memref sig .tc .vmem S1x1x512x128 .bf16) (harg11 : arg11.IsWhole)
  (arg12 : Memref sig .tc .vmem S1x4x512x128 .f32) (harg12 : arg12.IsWhole)
  (arg13 : Memref sig .tc .vmem S1x1x512x128 .f32) (harg13 : arg13.IsWhole)
  (arg14 : Memref sig .tc .vmem S1x512x512 .f32) (harg14 : arg14.IsWhole)
  (arg15 : Memref sig .tc .vmem S2048x256 .bf16) (harg15 : arg15.IsWhole)
  (arg16 : Memref sig .tc .vmem S2048x512 .f32) (harg16 : arg16.IsWhole)
  (arg17 : Memref sig .tc .vmem S2x2048x128 .f32) (harg17 : arg17.IsWhole)
  (arg18 : Memref sig .tc .vmem S2x2048x256 .f32) (harg18 : arg18.IsWhole)

variable (x0 : Vec F S1x4x512x128 .f32) (x1 : Vec F S1x1x1x8192x256 .bf16) (x2 : Vec F S1x1x1x8192x256 .bf16) (x3 : Vec F S1x1x1x512x256 .bf16) (x4 : Vec F S1x1x1x512x256 .bf16) (x5 : Vec F S1x1x1x512x256 .bf16) (x6 : Vec F S1x1x1x512x256 .bf16) (x7 : Vec F S3x512x512 .f32) (x8 : Vec F S1x1x512x128 .bf16) (x9 : Vec F S1x4x512x128 .f32) (x10 : Vec F S1x1x512x128 .f32)

theorem hs0 : attRun.sl.HS0_2 (F := F) c arg3 harg3 arg11 harg11 x0 x8
    = [⟨Rect.unit (s := S2048x256) ![0, 128] S2048x128.size inb_S2048x256_S2048x128_0_128, k0_pay12 x8⟩,
      ⟨Rect.unit (s := S2048x256) ![0, 0] S2048x128.size inb_S2048x256_S2048x128_0_0, k0_pay11 x0⟩] := by
  unfold attRun.sl.HS0_2
  rw [readAt_whole arg11 harg11 x8, readAt_whole arg3 harg3 x0]

theorem q_eq : arg15.view.readAt (Elt F) (Rect.unit (s := S2048x256) ![0, 0] S2048x256.size inb_S2048x256_S2048x256_0_0).toLoadRect
    (arg15.view.writes (Elt F) arg15.view.junk (attRun.sl.HS0_2 (F := F) c arg3 harg3 arg11 harg11 x0 x8)) = qa x0 x8 := by
  rw [hs0, View.readAt_full, View.read_writes_junk_eq_canon]
  rfl

theorem v45_eq : attRun.sl.v45 (F := F) c arg3 harg3 arg11 harg11 arg15 x0 x8 = qa x0 x8 := q_eq c arg3 harg3 arg11 harg11 arg15 x0 x8

theorem v96_eq : attRun.sl.v96 (F := F) c arg3 harg3 arg11 harg11 arg15 x0 x8 = qa x0 x8 := q_eq c arg3 harg3 arg11 harg11 arg15 x0 x8

theorem h16 : arg16.view.readAt (Elt F) (Rect.unit (s := S2048x512) ![0, 0] S2048x512.size inb_S2048x512_S2048x512_0_0).toLoadRect
    (arg16.view.writes (Elt F) arg16.view.junk (attRun.sl.HS1_1 (F := F) c arg3 harg3 arg4 harg4 arg11 harg11 arg15 x0 x1 x8)) = k0_pay15 (qa x0 x8) (rows x1 0) := by
  unfold attRun.sl.HS1_1
  rw [readAt_cons_same, v45_eq, readAt_rows _ _ x1 (harg4.read_unread x1) _ 0 rfl]

theorem fill17_0 : arg17.view.readAt (Elt F) (Rect.unit (s := S2x2048x128) ![0, 0, 0] S1x2048x128.size inb_S2x2048x128_S1x2048x128_0_0_0).toLoadRect
    (arg17.view.writes (Elt F) arg17.view.junk (attRun.sl.HS2_1 (F := F))) = m0 := by
  unfold attRun.sl.HS2_1
  rw [readAt_whole_store]
  rfl

theorem fill18_0 : arg18.view.readAt (Elt F) (Rect.unit (s := S2x2048x256) ![0, 0, 0] S1x2048x256.size inb_S2x2048x256_S1x2048x256_0_0_0).toLoadRect
    (arg18.view.writes (Elt F) arg18.view.junk (attRun.sl.HS3_1 (F := F))) = a0 := by
  unfold attRun.sl.HS3_1
  rw [readAt_whole_store]
  rfl

theorem fill17_1 : arg17.view.readAt (Elt F) (Rect.unit (s := S2x2048x128) ![1, 0, 0] S1x2048x128.size inb_S2x2048x128_S1x2048x128_1_0_0).toLoadRect
    (arg17.view.writes (Elt F) arg17.view.junk (attRun.sl.HS2_1 (F := F))) = m0 := by
  unfold attRun.sl.HS2_1
  rw [readAt_whole_store]
  rfl

theorem fill18_1 : arg18.view.readAt (Elt F) (Rect.unit (s := S2x2048x256) ![1, 0, 0] S1x2048x256.size inb_S2x2048x256_S1x2048x256_1_0_0).toLoadRect
    (arg18.view.writes (Elt F) arg18.view.junk (attRun.sl.HS3_1 (F := F))) = a0 := by
  unfold attRun.sl.HS3_1
  rw [readAt_whole_store]
  rfl

/-- The reads after the loop. -/
theorem after_loop :
    (arg16.view.readAt (Elt F) (Rect.unit (s := S2048x512) ![0, 0] S2048x512.size inb_S2048x512_S2048x512_0_0).toLoadRect
        (arg16.view.writes (Elt F) (arg16.view.writes (Elt F) arg16.view.junk (attRun.sl.HS1_1 (F := F) c arg3 harg3 arg4 harg4 arg11 harg11 arg15 x0 x1 x8)) (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (attRun.sl.v0 i) 512#32 (attRun.sl.v28 i) (harg4.unread x1) (harg5.unread x2) (arg15.view.writes (Elt F) arg15.view.junk (attRun.sl.HS0_2 (F := F) c arg3 harg3 arg11 harg11 x0 x8)) (arg16.view.writes (Elt F) arg16.view.junk (attRun.sl.HS1_1 (F := F) c arg3 harg3 arg4 harg4 arg11 harg11 arg15 x0 x1 x8)) (arg17.view.writes (Elt F) arg17.view.junk (attRun.sl.HS2_1 (F := F))) (arg18.view.writes (Elt F) arg18.view.junk (attRun.sl.HS3_1 (F := F))) (k0_t1_loop i).trips).1) = k0_pay15 (qa x0 x8) (rows x1 (512 * (i 2).val)))
    ∧ (arg17.view.readAt (Elt F) (Rect.unit (s := S2x2048x128) ![0, 0, 0] S1x2048x128.size inb_S2x2048x128_S1x2048x128_0_0_0).toLoadRect
        (arg17.view.writes (Elt F) (arg17.view.writes (Elt F) arg17.view.junk (attRun.sl.HS2_1 (F := F))) (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (attRun.sl.v0 i) 512#32 (attRun.sl.v28 i) (harg4.unread x1) (harg5.unread x2) (arg15.view.writes (Elt F) arg15.view.junk (attRun.sl.HS0_2 (F := F) c arg3 harg3 arg11 harg11 x0 x8)) (arg16.view.writes (Elt F) arg16.view.junk (attRun.sl.HS1_1 (F := F) c arg3 harg3 arg4 harg4 arg11 harg11 arg15 x0 x1 x8)) (arg17.view.writes (Elt F) arg17.view.junk (attRun.sl.HS2_1 (F := F))) (arg18.view.writes (Elt F) arg18.view.junk (attRun.sl.HS3_1 (F := F))) (k0_t1_loop i).trips).2.1) = (st (qa x0 x8) x1 x2 (i 2).val).1)
    ∧ (arg18.view.readAt (Elt F) (Rect.unit (s := S2x2048x256) ![0, 0, 0] S1x2048x256.size inb_S2x2048x256_S1x2048x256_0_0_0).toLoadRect
        (arg18.view.writes (Elt F) (arg18.view.writes (Elt F) arg18.view.junk (attRun.sl.HS3_1 (F := F))) (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (attRun.sl.v0 i) 512#32 (attRun.sl.v28 i) (harg4.unread x1) (harg5.unread x2) (arg15.view.writes (Elt F) arg15.view.junk (attRun.sl.HS0_2 (F := F) c arg3 harg3 arg11 harg11 x0 x8)) (arg16.view.writes (Elt F) arg16.view.junk (attRun.sl.HS1_1 (F := F) c arg3 harg3 arg4 harg4 arg11 harg11 arg15 x0 x1 x8)) (arg17.view.writes (Elt F) arg17.view.junk (attRun.sl.HS2_1 (F := F))) (arg18.view.writes (Elt F) arg18.view.junk (attRun.sl.HS3_1 (F := F))) (k0_t1_loop i).trips).2.2) = (st (qa x0 x8) x1 x2 (i 2).val).2)
    ∧ (arg17.view.readAt (Elt F) (Rect.unit (s := S2x2048x128) ![1, 0, 0] S1x2048x128.size inb_S2x2048x128_S1x2048x128_1_0_0).toLoadRect
        (arg17.view.writes (Elt F) (arg17.view.writes (Elt F) arg17.view.junk (attRun.sl.HS2_1 (F := F))) (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (attRun.sl.v0 i) 512#32 (attRun.sl.v28 i) (harg4.unread x1) (harg5.unread x2) (arg15.view.writes (Elt F) arg15.view.junk (attRun.sl.HS0_2 (F := F) c arg3 harg3 arg11 harg11 x0 x8)) (arg16.view.writes (Elt F) arg16.view.junk (attRun.sl.HS1_1 (F := F) c arg3 harg3 arg4 harg4 arg11 harg11 arg15 x0 x1 x8)) (arg17.view.writes (Elt F) arg17.view.junk (attRun.sl.HS2_1 (F := F))) (arg18.view.writes (Elt F) arg18.view.junk (attRun.sl.HS3_1 (F := F))) (k0_t1_loop i).trips).2.1) = m0)
    ∧ (arg18.view.readAt (Elt F) (Rect.unit (s := S2x2048x256) ![1, 0, 0] S1x2048x256.size inb_S2x2048x256_S1x2048x256_1_0_0).toLoadRect
        (arg18.view.writes (Elt F) (arg18.view.writes (Elt F) arg18.view.junk (attRun.sl.HS3_1 (F := F))) (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (attRun.sl.v0 i) 512#32 (attRun.sl.v28 i) (harg4.unread x1) (harg5.unread x2) (arg15.view.writes (Elt F) arg15.view.junk (attRun.sl.HS0_2 (F := F) c arg3 harg3 arg11 harg11 x0 x8)) (arg16.view.writes (Elt F) arg16.view.junk (attRun.sl.HS1_1 (F := F) c arg3 harg3 arg4 harg4 arg11 harg11 arg15 x0 x1 x8)) (arg17.view.writes (Elt F) arg17.view.junk (attRun.sl.HS2_1 (F := F))) (arg18.view.writes (Elt F) arg18.view.junk (attRun.sl.HS3_1 (F := F))) (k0_t1_loop i).trips).2.2) = a0) := by
  have h := loop_reads c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (attRun.sl.v0 i) 512#32 (attRun.sl.v28 i) (harg4.unread x1) (harg5.unread x2) (arg15.view.writes (Elt F) arg15.view.junk (attRun.sl.HS0_2 (F := F) c arg3 harg3 arg11 harg11 x0 x8)) (arg16.view.writes (Elt F) arg16.view.junk (attRun.sl.HS1_1 (F := F) c arg3 harg3 arg4 harg4 arg11 harg11 arg15 x0 x1 x8)) (arg17.view.writes (Elt F) arg17.view.junk (attRun.sl.HS2_1 (F := F))) (arg18.view.writes (Elt F) arg18.view.junk (attRun.sl.HS3_1 (F := F)))
    (qa x0 x8) x1 x2 (harg4.read_unread x1) (harg5.read_unread x2) (q_eq c arg3 harg3 arg11 harg11 arg15 x0 x8) (h16 c arg3 harg3 arg4 harg4 arg11 harg11 arg15 arg16 x0 x1 x8) (fill17_0 arg17) (fill18_0 arg18) (k0_t1_loop i).trips le_rfl
  have e := trips1 i
  refine ⟨?_, ?_, ?_, ?_, ?_⟩
  · have h1 := h.1; rw [e] at h1 ⊢; exact h1
  · have h1 := h.2.1; rw [e] at h1 ⊢; exact h1
  · have h1 := h.2.2.1; rw [e] at h1 ⊢; exact h1
  · exact h.2.2.2.1.trans (fill17_1 arg17)
  · exact h.2.2.2.2.trans (fill18_1 arg18)

theorem v59_eq : attRun.sl.v59 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x8 = k0_pay15 (qa x0 x8) (rows x1 (512 * (i 2).val)) := by
  unfold attRun.sl.v59
  rw [t2_nil]
  unfold View.readCov
  rw [List.nil_append, View.writes_append]
  exact (after_loop c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x8).1

theorem v69_eq : attRun.sl.v69 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x8 = (st (qa x0 x8) x1 x2 (i 2).val).1 := by
  unfold attRun.sl.v69
  rw [t2_nil]
  unfold View.readCov
  rw [List.nil_append, View.writes_append]
  exact (after_loop c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x8).2.1

theorem v86_eq : attRun.sl.v86 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x8 = (st (qa x0 x8) x1 x2 (i 2).val).2 := by
  unfold attRun.sl.v86
  rw [t2_nil]
  unfold View.readCov
  rw [List.nil_append, View.writes_append]
  exact (after_loop c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x8).2.2.1

theorem v116_eq : attRun.sl.v116 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x7 x8 = m0 := by
  unfold attRun.sl.v116 View.readCov attRun.sl.HS2_1_1
  rw [readAt_cons_off _ _ _ _ _ _ (by decide +kernel)]
  rw [t2_nil]
  rw [List.nil_append, View.writes_append]
  exact (after_loop c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x8).2.2.2.1

theorem v132_eq : attRun.sl.v132 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x7 x8 = a0 := by
  unfold attRun.sl.v132 View.readCov attRun.sl.HS3_1_1
  rw [readAt_cons_off _ _ _ _ _ _ (by decide +kernel)]
  rw [t2_nil]
  rw [List.nil_append, View.writes_append]
  exact (after_loop c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x8).2.2.2.2

theorem v105_eq : attRun.sl.v105 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x8 = k0_pay24 (qa x0 x8) x3 := by
  unfold attRun.sl.v105 View.readCov attRun.sl.HS1_1_1
  rw [readAt_cons_same]
  rw [v96_eq, readAt_whole arg6 harg6 x3]

theorem v149_eq : attRun.sl.v149 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x8 = k0_pay31 (qa x0 x8) x5 := by
  unfold attRun.sl.v149 View.readCov attRun.sl.HS1_2
  rw [readAt_cons_same]
  rw [v96_eq, readAt_whole arg8 harg8 x5]

theorem r_2_eq : attRun.sl.r_2 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x7 x8 = k0_pay27 (k0_pay24 (qa x0 x8) x3) (oldTri x7 (i 2).val) m0 := by
  unfold attRun.sl.r_2
  rw [v105_eq, v116_eq, (readAt_layer _ _ x7 (harg10.read_unread x7) _ (oldKind (i 2).val) (off6_eq i))]
  rfl

theorem r_3_eq : attRun.sl.r_3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x7 x8 = k0_pay28 (k0_pay24 (qa x0 x8) x3) (oldTri x7 (i 2).val) m0 x4 := by
  unfold attRun.sl.r_3
  rw [v105_eq, v116_eq, (readAt_layer _ _ x7 (harg10.read_unread x7) _ (oldKind (i 2).val) (off6_eq i)), readAt_whole arg7 harg7 x4]
  rfl

theorem r_4_eq : attRun.sl.r_4 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x7 x8 = msk (k0_pay15 (qa x0 x8) x5) (layer x7 0) := by
  unfold attRun.sl.r_4
  rw [v149_eq, (readAt_layer _ _ x7 (harg10.read_unread x7) ![0, 0, 0] 0 rfl)]
  rfl

theorem v159_eq : attRun.sl.v159 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x7 x8 = k0_pay6 (msk (k0_pay15 (qa x0 x8) x3) (oldTri x7 (i 2).val)) m0 := by
  unfold attRun.sl.v159 View.readCov attRun.sl.HS2_2
  rw [readAt_cons_same]
  rw [r_2_eq]
  rfl

theorem v175_eq : attRun.sl.v175 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x7 x8 = k0_pay5 (msk (k0_pay15 (qa x0 x8) x3) (oldTri x7 (i 2).val)) m0 x4 a0 := by
  unfold attRun.sl.v175 View.readCov attRun.sl.HS3_2
  rw [readAt_cons_same]
  unfold attRun.sl.r_1
  rw [r_2_eq, r_3_eq, v116_eq, v132_eq]
  rfl

theorem v217_eq : attRun.sl.v217 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 = winAcc (qa x0 x8) x3 x4 x5 x6 x7 (i 2).val := by
  unfold attRun.sl.v217 View.readCov attRun.sl.HS3_3
  rw [readAt_cons_same]
  rw [r_4_eq, v159_eq, v175_eq, readAt_whole arg9 harg9 x6]
  rfl

theorem v202_eq : attRun.sl.v202 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 = slcAcc (qa x0 x8) x1 x2 x7 (i 2).val := by
  unfold attRun.sl.v202 View.readCov attRun.sl.HS3_3
  rw [readAt_cons_off _ _ _ _ _ _ (by decide +kernel)]
  unfold attRun.sl.HS3_2
  rw [readAt_cons_off _ _ _ _ _ _ (by decide +kernel)]
  unfold attRun.sl.HS3_1_1
  rw [readAt_cons_same]
  unfold attRun.sl.r
  rw [v59_eq, v69_eq, v86_eq, (readAt_layer _ _ x7 (harg10.read_unread x7) ![0, 0, 0] 0 rfl), readAt_rows _ _ x2 (harg5.read_unread x2) _ _ (off5_eq i)]
  rfl

/-- The four pieces the body stores. -/
theorem attRun_val : (attRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).1
    = [⟨Rect.unit (s := S1x512x512) ![0, 0, 384] ![1, 512, 128] inb_S1x512x512_S1x512x128_0_0_384, k0_pay2 (outRows x0 x1 x2 x3 x4 x5 x6 x7 x8 x9 x10 (i 2).val)⟩,
      ⟨Rect.unit (s := S1x512x512) ![0, 0, 256] ![1, 512, 128] inb_S1x512x512_S1x512x128_0_0_256, k0_pay1 (k0_pay42 (k0_pay37 x10) (k0_pay38 x10) x9 (slcAcc (qa x0 x8) x1 x2 x7 (i 2).val) (winAcc (qa x0 x8) x3 x4 x5 x6 x7 (i 2).val))⟩,
      ⟨Rect.unit (s := S1x512x512) ![0, 0, 128] S1x512x128.size inb_S1x512x512_S1x512x128_0_0_128, k0_pay41 (k0_pay37 x10) (k0_pay38 x10) x9 (slcAcc (qa x0 x8) x1 x2 x7 (i 2).val) (winAcc (qa x0 x8) x3 x4 x5 x6 x7 (i 2).val)⟩,
      ⟨Rect.unit (s := S1x512x512) ![0, 0, 0] S1x512x128.size inb_S1x512x512_S1x512x128_0_0_0, k0_pay40 (k0_pay37 x10) (k0_pay38 x10) x9 (slcAcc (qa x0 x8) x1 x2 x7 (i 2).val) (winAcc (qa x0 x8) x3 x4 x5 x6 x7 (i 2).val)⟩] := by
  unfold attRun
  dsimp only
  unfold attRun.sl.r_7 attRun.sl.r_8 attRun.sl.r_5 attRun.sl.r_6
  rw [v202_eq, v217_eq, readAt_whole arg12 harg12 x9, readAt_whole arg13 harg13 x10]
  rfl

end Run

end Cert.KernelIdeal.Att

end
-- ==== Proof.AttMath.lean ====
module

public import Idealize.ShloMosaic.PureOps.Ideal
public import Mathlib.Algebra.BigOperators.Fin
public import Mathlib.Analysis.SpecialFunctions.Pow.Real

/-! A softmax-weighted sum over the extended reals: the running form, block by block in base two, against the plain form. -/

@[expose] public section

noncomputable section

namespace Cert.Softmax

open Idealize.ShloMosaic Finset

/-- The base-two exponential of the idealized kernel. -/
abbrev E (x : EReal) : EReal := FloatOps.exp2 (F := Ideal) (φ := .f32) x

theorem E_bot : E ⊥ = 0 := rfl
theorem E_coe (r : ℝ) : E (r : EReal) = ((Real.rpow 2 r : ℝ) : EReal) := rfl
theorem exp_bot : Ideal.exp ⊥ = 0 := rfl
theorem exp_coe (r : ℝ) : Ideal.exp (r : EReal) = ((Real.exp r : ℝ) : EReal) := rfl

/-- Below its maximum a difference is `⊥` or a real number at most zero. -/
theorem sub_cases {s m : EReal} (h : s ≤ m) :
    s - m = ⊥ ∨ ∃ a b : ℝ, s = a ∧ m = b ∧ a ≤ b := by
  induction m using EReal.rec with
  | bot => left; rw [le_bot_iff.mp h]; rfl
  | top =>
    left
    exact EReal.sub_top s
  | coe b =>
    induction s using EReal.rec with
    | bot => left; rfl
    | top => exact absurd h (by simp)
    | coe a => right; exact ⟨a, b, rfl, rfl, by exact_mod_cast h⟩

/-- A factor of the running form is nonnegative and at most one. -/
theorem E_sub_bounds {s m : EReal} (h : s ≤ m) : 0 ≤ E (s - m) ∧ E (s - m) ≤ 1 := by
  rcases sub_cases h with h' | ⟨a, b, rfl, rfl, hab⟩
  · rw [h', E_bot]; exact ⟨le_rfl, zero_le_one⟩
  · rw [← EReal.coe_sub, E_coe]
    constructor
    · exact_mod_cast (Real.rpow_pos_of_pos (by norm_num) _).le
    · have : Real.rpow 2 (a - b) ≤ 1 := Real.rpow_le_one_of_one_le_of_nonpos (by norm_num) (by linarith)
      exact_mod_cast this

theorem E_sub_ne_top {s m : EReal} (h : s ≤ m) : E (s - m) ≠ ⊤ := by
  intro h'
  have := (E_sub_bounds h).2
  rw [h'] at this
  exact absurd this (by decide)

/-- Two factors compose. -/
theorem E_mul {s m m' : EReal} (h : s ≤ m) (h' : m ≤ m') : E (m - m') * E (s - m) = E (s - m') := by
  rcases sub_cases h' with h1 | ⟨b, c, rfl, rfl, hbc⟩
  · rw [h1, E_bot, zero_mul]
    induction m' using EReal.rec with
    | bot =>
      have hm : m = ⊥ := le_bot_iff.mp h'
      subst hm
      rw [le_bot_iff.mp h]; rfl
    | top => rw [EReal.sub_top]; rfl
    | coe c =>
      induction m using EReal.rec with
      | bot => rw [le_bot_iff.mp h]; rfl
      | top => exact absurd h' (by simp)
      | coe b => rw [← EReal.coe_sub] at h1; exact absurd h1 (EReal.coe_ne_bot _)
  · induction s using EReal.rec with
    | bot =>
      have e1 : ((⊥ : EReal) - (b : EReal)) = ⊥ := rfl
      have e2 : ((⊥ : EReal) - (c : EReal)) = ⊥ := rfl
      rw [e1, e2, E_bot, mul_zero]
    | top => exact absurd h (by simp)
    | coe a =>
      rw [← EReal.coe_sub, ← EReal.coe_sub, ← EReal.coe_sub, E_coe, E_coe, E_coe, ← EReal.coe_mul]
      congr 1
      have : a - c = (b - c) + (a - b) := by ring
      rw [this]
      exact (Real.rpow_add (by norm_num) _ _).symm

/-- A nonnegative finite factor distributes over a finite sum. -/
theorem mul_sum_of_nonneg {ι : Type*} (T : Finset ι) (f : ι → EReal) {a : EReal} (ha : 0 ≤ a) (ha' : a ≠ ⊤) :
    a * ∑ i ∈ T, f i = ∑ i ∈ T, a * f i := by
  classical
  induction T using Finset.induction_on with
  | empty => simp
  | insert i T hi ih =>
    rw [Finset.sum_insert hi, Finset.sum_insert hi, EReal.left_distrib_of_nonneg_of_ne_top ha ha', ih]

/-- The running maximum over the first `n` keys. -/
def top (S : ℕ → EReal) (n : ℕ) : EReal := (range n).sup S

/-- The running weighted sum over the first `n` keys. -/
def acc (S v : ℕ → EReal) (n : ℕ) : EReal := ∑ j ∈ range n, E (S j - top S n) * v j

theorem top_zero (S : ℕ → EReal) : top S 0 = ⊥ := rfl
theorem acc_zero (S v : ℕ → EReal) : acc S v 0 = 0 := rfl

theorem le_top (S : ℕ → EReal) {j n : ℕ} (h : j < n) : S j ≤ top S n := Finset.le_sup (mem_range.mpr h)

theorem fold_max_eq_sup {k : ℕ} (s : Fin k → EReal) : Finset.fold max (⊥ : EReal) s univ = univ.sup s := rfl

/-- The maximum after one more block. -/
theorem top_add (S : ℕ → EReal) (n k : ℕ) (s : Fin k → EReal) (h : ∀ x : Fin k, s x = S (n + x.val)) :
    max (top S n) (Finset.fold max (⊥ : EReal) s univ) = top S (n + k) := by
  rw [fold_max_eq_sup]
  apply le_antisymm
  · refine max_le (Finset.sup_le fun j hj => le_top S (by have := mem_range.mp hj; omega)) (Finset.sup_le fun x _ => ?_)
    rw [h]; exact le_top S (by have := x.isLt; omega)
  · refine Finset.sup_le fun j hj => ?_
    have hj' := mem_range.mp hj
    rcases Nat.lt_or_ge j n with h' | h'
    · exact le_max_of_le_left (le_top S h')
    · refine le_max_of_le_right ?_
      have := Finset.le_sup (f := s) (mem_univ (⟨j - n, by omega⟩ : Fin k))
      rwa [h, show n + (j - n) = j by omega] at this

theorem top_mono (S : ℕ → EReal) {n n' : ℕ} (h : n ≤ n') : top S n ≤ top S n' :=
  Finset.sup_le fun j hj => le_top S (by have := mem_range.mp hj; omega)

/-- The weighted sum after one more block: the old sum rescaled to the new maximum, and the block's own terms. -/
theorem acc_add (S v : ℕ → EReal) (n k : ℕ) (s w : Fin k → EReal) (h : ∀ x : Fin k, s x = S (n + x.val)) (hw : ∀ x : Fin k, w x = v (n + x.val)) :
    E (top S n - top S (n + k)) * acc S v n + ∑ x, E (s x - top S (n + k)) * w x = acc S v (n + k) := by
  have hle : top S n ≤ top S (n + k) := top_mono S (by omega)
  unfold acc
  rw [Finset.sum_range_add, mul_sum_of_nonneg _ _ (E_sub_bounds hle).1 (E_sub_ne_top hle)]
  congr 1
  · refine Finset.sum_congr rfl fun j hj => ?_
    rw [← mul_assoc, E_mul (le_top S (mem_range.mp hj)) hle]
  · rw [Finset.sum_range]
    exact Finset.sum_congr rfl fun x _ => by rw [h, hw]

/-- The plain form: the mask's scores, their maximum, the weights. -/
def refScore (μ : ℕ → Prop) [DecidablePred μ] (s : ℕ → EReal) (j : ℕ) : EReal := if μ j then s j else ⊥

/-- The shift of the plain form: the maximum, or zero where the row is empty. -/
def refShift (m : EReal) : EReal := if ⊥ < m then m else 0

/-- `1 / ln 2`. -/
abbrev κ2 : ℝ := (Real.log 2)⁻¹

theorem κ2_pos : 0 < κ2 := inv_pos.mpr (Real.log_pos (by norm_num))

theorem mul_κ2_mono : Monotone fun x : EReal => x * (κ2 : EReal) := fun a b h =>
  mul_le_mul_of_nonneg_right h (by exact_mod_cast κ2_pos.le)

theorem bot_mul_κ2 : (⊥ : EReal) * (κ2 : EReal) = ⊥ := EReal.bot_mul_coe_of_pos κ2_pos
theorem top_mul_κ2 : (⊤ : EReal) * (κ2 : EReal) = ⊤ := EReal.top_mul_coe_of_pos κ2_pos

/-- The maximum of the scaled scores. -/
theorem top_scale (s : ℕ → EReal) (n : ℕ) : top (fun j => s j * (κ2 : EReal)) n = top s n * (κ2 : EReal) := by
  unfold top
  induction n with
  | zero => exact bot_mul_κ2.symm
  | succ n ih =>
    rw [Finset.range_add_one, Finset.sup_insert, Finset.sup_insert, ih]
    exact (mul_κ2_mono.map_sup _ _).symm

/-- The two exponentials agree below the maximum. -/
theorem E_eq_exp {s m : EReal} (h : s ≤ m) : E (s * (κ2 : EReal) - m * (κ2 : EReal)) = Ideal.exp (s - refShift m) := by
  unfold refShift
  induction m using EReal.rec with
  | bot =>
    rw [le_bot_iff.mp h, bot_mul_κ2]; simp only [lt_self_iff_false, if_false]; rfl
  | top =>
    rw [top_mul_κ2, if_pos (by decide), EReal.sub_top, EReal.sub_top]; rfl
  | coe b =>
    rw [if_pos (EReal.bot_lt_coe b)]
    induction s using EReal.rec with
    | bot =>
      rw [bot_mul_κ2, ← EReal.coe_mul]; rfl
    | top => exact absurd h (by simp)
    | coe a =>
      rw [← EReal.coe_mul, ← EReal.coe_mul, ← EReal.coe_sub, ← EReal.coe_sub, E_coe, exp_coe]
      congr 1
      show (2 : ℝ) ^ (a * κ2 - b * κ2) = _
      rw [Real.rpow_def_of_pos (by norm_num)]
      congr 1
      have : Real.log 2 ≠ 0 := (Real.log_pos (by norm_num)).ne'
      simp only [κ2]
      field_simp

/-- A weight of the plain form is the kernel's. -/
theorem refWeight_eq (μ : ℕ → Prop) [DecidablePred μ] (s : ℕ → EReal) (n j : ℕ) (hj : j < n) :
    (if μ j then Ideal.exp (refScore μ s j - refShift (top (refScore μ s) n)) else 0)
      = E (refScore μ s j * (κ2 : EReal) - top (fun j => refScore μ s j * (κ2 : EReal)) n) := by
  rw [top_scale, E_eq_exp (le_top _ hj)]
  by_cases h : μ j
  · rw [if_pos h]
  · rw [if_neg h]
    have : refScore μ s j = ⊥ := if_neg h
    rw [this]
    unfold refShift
    split_ifs
    · generalize top (refScore μ s) n = m
      induction m using EReal.rec with
      | bot => rfl
      | top => rw [EReal.sub_top]; rfl
      | coe b => rfl
    · rfl

theorem sum_nonneg_le (S : ℕ → EReal) (n : ℕ) : 0 ≤ acc S (fun _ => 1) n ∧ acc S (fun _ => 1) n ≤ (n : EReal) := by
  unfold acc
  constructor
  · exact Finset.sum_nonneg fun j hj => by rw [mul_one]; exact (E_sub_bounds (le_top S (mem_range.mp hj))).1
  · calc _ ≤ ∑ j ∈ range n, (1 : EReal) := Finset.sum_le_sum fun j hj => by
          rw [mul_one]; exact (E_sub_bounds (le_top S (mem_range.mp hj))).2
      _ = _ := by simp

/-- The sum of the weights is zero, or a real number at least one. -/
theorem acc_one_cases (S : ℕ → EReal) (n : ℕ) :
    (∀ j < n, E (S j - top S n) = 0) ∨ ∃ L : ℝ, 1 ≤ L ∧ acc S (fun _ => 1) n = (L : EReal) := by
  by_cases hb : ∃ b : ℝ, top S n = b
  · right
    obtain ⟨b, hb⟩ := hb
    have hn : (range n).Nonempty := by
      rw [Finset.nonempty_iff_ne_empty]
      intro h
      rw [top, h] at hb
      exact absurd hb.symm (EReal.coe_ne_bot b)
    obtain ⟨j, hj, hj'⟩ := Finset.exists_mem_eq_sup _ hn S
    have h1 : 1 ≤ acc S (fun _ => 1) n := by
      unfold acc
      refine le_trans ?_ (Finset.single_le_sum (f := fun j => E (S j - top S n) * 1) (fun i hi => ?_) hj)
      · have : S j = b := by rw [← hj']; exact hb
        simp only [mul_one]
        rw [this, hb, ← EReal.coe_sub, sub_self, E_coe]
        have : Real.rpow 2 0 = 1 := Real.rpow_zero 2
        rw [this]; exact le_rfl
      · simp only [mul_one]; exact (E_sub_bounds (le_top S (mem_range.mp hi))).1
    have h2 := (sum_nonneg_le S n).2
    generalize acc S (fun _ => 1) n = x at h1 h2
    induction x using EReal.rec with
    | bot => exact absurd h1 (by decide)
    | top => exact absurd h2 (by rw [top_le_iff]; exact EReal.natCast_ne_top n)
    | coe L => exact ⟨L, by exact_mod_cast h1, rfl⟩
  · left
    intro j hj
    have hle := le_top S hj
    rcases sub_cases hle with h | ⟨a, b, _, h, _⟩
    · rw [h, E_bot]
    · exact absurd ⟨b, h⟩ hb

/-- Normalising at the end is normalising each weight. -/
theorem normalize (S v : ℕ → EReal) (n : ℕ) {ε : ℝ} (hε : 0 < ε) (hε1 : ε ≤ 1) :
    acc S v n * Ideal.div 1 (acc S (fun _ => 1) n)
      = ∑ j ∈ range n, Ideal.div (E (S j - top S n)) (max (∑ i ∈ range n, E (S i - top S n)) (ε : EReal)) * v j := by
  have hs : ∑ i ∈ range n, E (S i - top S n) = acc S (fun _ => 1) n := by simp only [acc, mul_one]
  rw [hs]
  rcases acc_one_cases S n with h | ⟨L, hL, hacc⟩
  · have h0 : acc S v n = 0 := Finset.sum_eq_zero fun j hj => by rw [h j (mem_range.mp hj), zero_mul]
    rw [h0, zero_mul]
    refine (Finset.sum_eq_zero fun j hj => ?_).symm
    have hne : max (acc S (fun _ => 1) n) (ε : EReal) ≠ 0 := by
      have : (0 : EReal) < ε := by exact_mod_cast hε
      exact (lt_of_lt_of_le this (le_max_right _ _)).ne'
    rw [h j (mem_range.mp hj), Ideal.div, if_neg hne, zero_mul, zero_mul]
  · have hmax : max (acc S (fun _ => 1) n) (ε : EReal) = (L : EReal) := by
      rw [hacc]; exact max_eq_left (by exact_mod_cast hε1.trans hL)
    have hL0 : (L : EReal) ≠ 0 := by exact_mod_cast (by linarith : L ≠ 0)
    rw [hmax, hacc]
    simp only [Ideal.div, if_neg hL0, one_mul]
    rw [← EReal.coe_inv]
    have hp : (0 : EReal) ≤ ((L⁻¹ : ℝ) : EReal) := by exact_mod_cast inv_nonneg.mpr (by linarith)
    unfold acc
    rw [mul_comm, mul_sum_of_nonneg _ _ hp (EReal.coe_ne_top _)]
    exact Finset.sum_congr rfl fun j _ => by rw [← mul_assoc, mul_comm ((L⁻¹ : ℝ) : EReal)]

/-- Keys with score `⊥` change nothing: the maximum and the sum over two index sets that carry the same other keys. -/
theorem top_embed (S S' : ℕ → EReal) {n n' : ℕ} (f : ℕ → ℕ) (hf : ∀ i < n', f i < n ∨ S' i = ⊥)
    (hS : ∀ i < n', S' i ≠ ⊥ → S' i = S (f i)) (hc : ∀ j < n, S j ≠ ⊥ → ∃ i < n', f i = j ∧ S' i = S j) : top S' n' = top S n := by
  apply le_antisymm
  · refine Finset.sup_le fun i hi => ?_
    have hi' := mem_range.mp hi
    by_cases h : S' i = ⊥
    · rw [h]; exact bot_le
    · rw [hS i hi' h]; exact le_top S ((hf i hi').resolve_right h)
  · refine Finset.sup_le fun j hj => ?_
    by_cases h : S j = ⊥
    · rw [h]; exact bot_le
    · obtain ⟨i, hi, _, e⟩ := hc j (mem_range.mp hj) h
      rw [← e]; exact le_top S' hi

theorem E_bot_sub (m : EReal) : E (⊥ - m) = 0 := by
  induction m using EReal.rec with
  | bot => rfl
  | top => rfl
  | coe b => rfl

/-- The sum over two index sets that carry the same keys of score other than `⊥`. -/
theorem acc_embed (S S' v v' : ℕ → EReal) {n n' : ℕ} (f : ℕ → ℕ) (hf : ∀ i < n', f i < n ∨ S' i = ⊥)
    (hS : ∀ i < n', S' i ≠ ⊥ → S' i = S (f i)) (hv : ∀ i < n', S' i ≠ ⊥ → v' i = v (f i))
    (hinj : ∀ i < n', ∀ i' < n', S' i ≠ ⊥ → S' i' ≠ ⊥ → f i = f i' → i = i')
    (hc : ∀ j < n, S j ≠ ⊥ → ∃ i < n', f i = j ∧ S' i = S j) : acc S' v' n' = acc S v n := by
  classical
  unfold acc
  rw [top_embed S S' f hf hS hc]
  have h1 : ∑ i ∈ range n', E (S' i - top S n) * v' i = ∑ i ∈ (range n').filter (fun i => S' i ≠ ⊥), E (S' i - top S n) * v' i := by
    refine (Finset.sum_subset (Finset.filter_subset _ _) fun i hi hi' => ?_).symm
    have : S' i = ⊥ := by
      by_contra h; exact hi' (Finset.mem_filter.mpr ⟨hi, h⟩)
    rw [this, E_bot_sub, zero_mul]
  have h2 : ∑ j ∈ range n, E (S j - top S n) * v j = ∑ j ∈ (range n).filter (fun j => S j ≠ ⊥), E (S j - top S n) * v j := by
    refine (Finset.sum_subset (Finset.filter_subset _ _) fun i hi hi' => ?_).symm
    have : S i = ⊥ := by
      by_contra h; exact hi' (Finset.mem_filter.mpr ⟨hi, h⟩)
    rw [this, E_bot_sub, zero_mul]
  rw [h1, h2]
  refine Finset.sum_bij (fun i _ => f i) ?_ ?_ ?_ ?_
  · intro i hi
    obtain ⟨hi, h⟩ := Finset.mem_filter.mp hi
    have hi' := mem_range.mp hi
    refine Finset.mem_filter.mpr ⟨mem_range.mpr ((hf i hi').resolve_right h), ?_⟩
    rw [← hS i hi' h]; exact h
  · intro i hi i' hi' e
    obtain ⟨hi, h⟩ := Finset.mem_filter.mp hi
    obtain ⟨hi', h'⟩ := Finset.mem_filter.mp hi'
    exact hinj i (mem_range.mp hi) i' (mem_range.mp hi') h h' e
  · intro j hj
    obtain ⟨hj, h⟩ := Finset.mem_filter.mp hj
    obtain ⟨i, hi, e, e'⟩ := hc j (mem_range.mp hj) h
    exact ⟨i, Finset.mem_filter.mpr ⟨mem_range.mpr hi, by rw [e']; exact h⟩, e⟩
  · intro i hi
    obtain ⟨hi, h⟩ := Finset.mem_filter.mp hi
    rw [hS i (mem_range.mp hi) h, hv i (mem_range.mp hi) h]

end Cert.Softmax
-- ==== Proof.AttPay.lean ====
module

public import proofs.«01_k».proof.Proof.AttOut
public import proofs.«01_k».proof.Proof.AttMath
public import Idealize.ShloMosaic.Lib.Pointwise

/-! The values of the idealized attention kernel, read at an index over the extended reals. -/

@[expose] public section

set_option maxRecDepth 16384

noncomputable section

namespace Cert.KernelIdeal.Att

open Idealize.ShloMosaic Idealize.ShloMosaic.TcCoe
open Cert.KernelIdeal.Gen Cert.Softmax

/-- The kernel's mask fill is `⊥`. -/
theorem named_mask : Named.named (F := Ideal) κ "mask" (φ := .f32) 0xF149F2CA#32 = (⊥ : EReal) :=
  IdealRules.named_const.ideal_named_scalar _ _ _ _ rfl

/-- The fill of an unselected block is `⊥`. -/
theorem named_unselected : Named.named (F := Ideal) κ "unselected" (φ := .f32) 0xF1800000#32 = (⊥ : EReal) :=
  IdealRules.named_const.ideal_named_scalar _ _ _ _ rfl

/-- The scale of the scores in base two. -/
theorem named_scale : Named.named (F := Ideal) κ "scale_log2e" (φ := .f32) 0x3E0293EE#32 = (((11863283 / 134217728) * (Real.log 2)⁻¹ : ℝ) : EReal) :=
  IdealRules.named_const.ideal_named_scalar _ _ _ _ rfl

/-- The f32 word of minus infinity. -/
theorem ofBits_neg_inf : Ideal.ofBits .f32 0xFF800000#32 = (⊥ : EReal) := by
  show Ideal.ieee 8 23 (0xFF800000#32) = ⊥
  unfold Ideal.ieee
  simp only []
  rw [if_pos (by decide), if_pos (by decide), if_pos (by decide)]

/-- The new maximum of a row. -/
theorem pay4_at (s : Vec Ideal S2048x512 .f32) (m : Vec Ideal S1x2048x128 .f32) (R : Fin 2048) (l : Fin 128) :
    k0_pay4 s m (ix2 R l) = max (m (ix3 0 R l)) (Finset.fold max (⊥ : EReal) (fun x => s (ix2 R x)) Finset.univ) := by
  pointwise [k0_pay4, k0_pay3]
  rw [ofBits_neg_inf]

/-- The stored maximum. -/
theorem pay6_at (s : Vec Ideal S2048x512 .f32) (m : Vec Ideal S1x2048x128 .f32) (R : Fin 2048) (l : Fin 128) :
    k0_pay6 s m (ix3 0 R l) = k0_pay4 s m (ix2 R l) := by
  pointwise [k0_pay6]

/-- The new weighted sum of a row, where the row's maximum is the same in every lane. -/
theorem pay5_at (s : Vec Ideal S2048x512 .f32) (m : Vec Ideal S1x2048x128 .f32) (v : Vec Ideal S1x1x1x512x256 .bf16) (a : Vec Ideal S1x2048x256 .f32) (R : Fin 2048) (c : Fin 256)
    (M M' : EReal) (hM : ∀ l, m (ix3 0 R l) = M) (hM' : ∀ l, k0_pay4 s m (ix2 R l) = M') :
    k0_pay5 s m v a (ix3 0 R c) = E (M - M') * a (ix3 0 R c) + ∑ x : Fin 512, E (s (ix2 R x) - M') * v (ix5 0 0 0 x c) := by
  pointwise [k0_pay5, k0_pay3]
  simp only [hM, hM', dite_eq_ite, ite_self]

/-- One block of the running softmax, in a row `R` and a column `c`. -/
theorem step_at (s : Vec Ideal S2048x512 .f32) (m : Vec Ideal S1x2048x128 .f32) (v : Vec Ideal S1x1x1x512x256 .bf16) (a : Vec Ideal S1x2048x256 .f32) (R : Fin 2048) (c : Fin 256)
    (S V : ℕ → EReal) (n : ℕ) (hs : ∀ x : Fin 512, s (ix2 R x) = S (n + x.val)) (hv : ∀ x : Fin 512, v (ix5 0 0 0 x c) = V (n + x.val))
    (hm : ∀ l, m (ix3 0 R l) = top S n) (ha : a (ix3 0 R c) = acc S V n) :
    (∀ l, k0_pay6 s m (ix3 0 R l) = top S (n + 512)) ∧ k0_pay5 s m v a (ix3 0 R c) = acc S V (n + 512) := by
  have h4 : ∀ l, k0_pay4 s m (ix2 R l) = top S (n + 512) := fun l => by
    rw [pay4_at, hm, top_add S n 512 _ hs]
  refine ⟨fun l => (pay6_at s m R l).trans (h4 l), ?_⟩
  rw [pay5_at s m v a R c _ _ hm h4, ha]
  exact acc_add S V n 512 _ _ hs hv

/-- The scaled query rows. -/
theorem pay11_at (x : Vec Ideal S1x4x512x128 .f32) (R : Fin 2048) (l : Fin 128) :
    k0_pay11 x (ix2 R l) = x (ix4 0 ⟨R.val / 512, by omega⟩ ⟨R.val % 512, by omega⟩ l) * (((11863283 / 134217728) * (Real.log 2)⁻¹ : ℝ) : EReal) := by
  pointwise [k0_pay11]
  rw [named_scale]

/-- The penalties of the unselected blocks, the same for each of the four heads. -/
theorem pay12_at (x : Vec Ideal S1x1x512x128 .bf16) (R : Fin 2048) (l : Fin 128) :
    k0_pay12 x (ix2 R l) = x (ix4 0 0 ⟨R.val % 512, by omega⟩ l) * (⊥ : EReal) := by
  pointwise [k0_pay12]
  rw [named_unselected]
  have hR := R.isLt
  by_cases h1 : R.val < 512
  · have e1 : R.val % 512 = R.val := by omega
    simp only [dif_pos h1, e1]
  by_cases h2 : R.val - 512 < 512
  · have e1 : R.val % 512 = R.val - 512 := by omega
    simp only [dif_neg h1, dif_pos h2, e1]
  by_cases h3 : R.val - 512 - 512 < 512
  · have e1 : R.val % 512 = R.val - 512 - 512 := by omega
    simp only [dif_neg h1, dif_neg h2, dif_pos h3, e1]
  · have e1 : R.val % 512 = R.val - 512 - 512 - 512 := by omega
    simp only [dif_neg h1, dif_neg h2, dif_neg h3, e1]

/-- The scores of a block. -/
theorem pay15_at (q : Vec Ideal S2048x256 .bf16) (x : Vec Ideal S1x1x1x512x256 .bf16) (R : Fin 2048) (k : Fin 512) :
    k0_pay15 q x (ix2 R k) = ∑ d : Fin 256, q (ix2 R d) * x (ix5 0 0 0 k d) := by
  pointwise [k0_pay15]

/-- The scores of a block with a layer of the triangle. -/
theorem msk_at (s : Vec Ideal S2048x512 .f32) (x : Vec Ideal S1x512x512 .f32) (R : Fin 2048) (k : Fin 512) :
    msk s x (ix2 R k) = s (ix2 R k) + x (ix3 0 ⟨R.val % 512, by omega⟩ k) * (⊥ : EReal) := by
  pointwise [msk, k0_pay19, k0_pay18]
  rw [named_mask]

/-- The first maximum. -/
theorem m0_at (R : Fin 2048) (l : Fin 128) : (m0 (F := Ideal)) (ix3 0 R l) = (⊥ : EReal) := by
  pointwise [m0, k0_pay13]
  exact named_mask

/-- The first sum. -/
theorem a0_at (R : Fin 2048) (l : Fin 256) : (a0 (F := Ideal)) (ix3 0 R l) = (0 : EReal) := by
  pointwise [a0, k0_pay14]

set_option maxHeartbeats 2000000 in
/-- The gated sum of the three branches. -/
theorem pay39_at (x10 : Vec Ideal S1x1x512x128 .f32) (x9 : Vec Ideal S1x4x512x128 .f32) (s w : Vec Ideal S1x2048x256 .f32) (R : Fin 2048) (l : Fin 128) :
    k0_pay39 (k0_pay37 x10) (k0_pay38 x10) x9 s w (ix2 R l)
      = x10 (ix4 0 0 ⟨R.val % 512, by omega⟩ ⟨3 * (R.val / 512), by omega⟩) * x9 (ix4 0 ⟨R.val / 512, by omega⟩ ⟨R.val % 512, by omega⟩ l)
        + x10 (ix4 0 0 ⟨R.val % 512, by omega⟩ ⟨3 * (R.val / 512) + 1, by omega⟩) * (s (ix3 0 R ⟨l.val, by omega⟩) * Ideal.div 1 (s (ix3 0 R ⟨128 + l.val, by omega⟩)))
        + x10 (ix4 0 0 ⟨R.val % 512, by omega⟩ ⟨3 * (R.val / 512) + 2, by omega⟩) * (w (ix3 0 R ⟨l.val, by omega⟩) * Ideal.div 1 (w (ix3 0 R ⟨128 + l.val, by omega⟩))) := by
  pointwise [k0_pay39, k0_pay38, k0_pay37]
  have hR := R.isLt
  by_cases h1 : R.val < 512
  · have e1 : R.val % 512 = R.val := by omega
    have e2 : R.val / 512 = 0 := by omega
    simp only [dif_pos h1, e1, e2]; rfl
  by_cases h2 : R.val - 512 < 512
  · have e1 : R.val % 512 = R.val - 512 := by omega
    have e2 : R.val / 512 = 1 := by omega
    simp only [dif_neg h1, dif_pos h2, e1, e2]; rfl
  by_cases h3 : R.val - 512 - 512 < 512
  · have e1 : R.val % 512 = R.val - 512 - 512 := by omega
    have e2 : R.val / 512 = 2 := by omega
    simp only [dif_neg h1, dif_neg h2, dif_pos h3, e1, e2]; rfl
  · have e1 : R.val % 512 = R.val - 512 - 512 - 512 := by omega
    have e2 : R.val / 512 = 3 := by omega
    simp only [dif_neg h1, dif_neg h2, dif_neg h3, e1, e2]; rfl

/-- A layer of the triangle. -/
theorem layer_at (x : Vec Ideal S3x512x512 .f32) (k : Fin 3) (a : Fin 512) (b : Fin 512) : layer x k (ix3 0 a b) = x (ix3 k a b) := by
  unfold layer
  refine congrArg x ?_
  rw [ix3_eq_valueIdx]
  rfl

/-- The rows of a block of keys. -/
theorem rows_at (x : Vec Ideal S1x1x1x8192x256 .bf16) (o : ℕ) (a : Fin 512) (b : Fin 256) (h : o + a.val < 8192) : rows x o (ix5 0 0 0 a b) = x (ix5 0 0 0 ⟨o + a.val, h⟩ b) := by
  unfold rows
  refine congrArg x ?_
  rw [ix5_eq_valueIdx]
  have : (⟨(o + a.val) % 8192, Nat.mod_lt _ (by norm_num)⟩ : Fin 8192) = ⟨o + a.val, h⟩ := Fin.ext (Nat.mod_eq_of_lt h)
  rw [← this]
  rfl

/-- The query rows with their penalties, the first half. -/
theorem qa_left (x0 : Vec Ideal S1x4x512x128 .f32) (x8 : Vec Ideal S1x1x512x128 .bf16) (R : Fin 2048) (d : Fin 256) (h : d.val < 128) :
    qa x0 x8 (ix2 R d) = k0_pay11 x0 (ix2 R ⟨d.val, h⟩) := by
  unfold qa
  rw [View.canon_cons_of_not_mem]
  · have e : (ix2 R d : S2048x256.Idx) = (Rect.unit (s := S2048x256) ![0, 0] S2048x128.size inb_S2048x256_S2048x128_0_0).emb (ix2 R ⟨d.val, h⟩) := by
      funext a
      match a with
      | ⟨0, _⟩ => exact Fin.ext (by show R.val = 0 + 1 * R.val; omega)
      | ⟨1, _⟩ => exact Fin.ext (by show d.val = 0 + 1 * d.val; omega)
    rw [e]
    exact View.canon_cons_emb _ _ _ _
  · intro hm
    obtain ⟨i, hi, he⟩ := (LoadRect.mem_set _).mp hm (1 : Fin 2)
    have he' : d.val = 128 + 1 * i := he
    omega

/-- The query rows with their penalties, the second half. -/
theorem qa_right (x0 : Vec Ideal S1x4x512x128 .f32) (x8 : Vec Ideal S1x1x512x128 .bf16) (R : Fin 2048) (d : Fin 256) (h : ¬ d.val < 128) :
    qa x0 x8 (ix2 R d) = k0_pay12 x8 (ix2 R ⟨d.val - 128, by omega⟩) := by
  unfold qa
  have e : (ix2 R d : S2048x256.Idx) = (Rect.unit (s := S2048x256) ![0, 128] S2048x128.size inb_S2048x256_S2048x128_0_128).emb (ix2 R ⟨d.val - 128, by omega⟩) := by
    funext a
    match a with
    | ⟨0, _⟩ => exact Fin.ext (by show R.val = 0 + 1 * R.val; omega)
    | ⟨1, _⟩ => exact Fin.ext (by show d.val = 128 + 1 * (d.val - 128); omega)
  rw [e]
  exact View.canon_cons_emb _ _ _ _

end Cert.KernelIdeal.Att
-- ==== Proof.AttVal.lean ====
module

public import proofs.«01_k».proof.Proof.AttPay

/-! What one grid point of the idealized attention computes, from what its operands' blocks hold: two masked softmaxes
over whole rows of keys, and their gated sum with the compressed branch. -/

@[expose] public section

set_option maxRecDepth 16384

noncomputable section

namespace Cert.Softmax

open Idealize.ShloMosaic Finset

/-- The reference's scale of the scores. -/
abbrev scaleR : ℝ := 11863283 / 134217728

/-- The reference's floor of a sum of weights, as a word's value. -/
abbrev floorE : EReal := Ideal.ofBits .f32 0x0DA24260#32

/-- The weights of a masked softmax over 8192 keys, before normalising. -/
def weight (μ : ℕ → Prop) [DecidablePred μ] (s : ℕ → EReal) (j : ℕ) : EReal :=
  if μ j then Ideal.exp (refScore μ s j - refShift (top (refScore μ s) 8192)) else 0

/-- A masked softmax's weighted sum over 8192 keys. -/
def refOut (μ : ℕ → Prop) [DecidablePred μ] (s v : ℕ → EReal) : EReal :=
  ∑ j ∈ range 8192, Ideal.div (weight μ s j) (max (∑ i ∈ range 8192, weight μ s i) floorE) * v j

theorem floor_eq : ∃ ε : ℝ, 0 < ε ∧ ε ≤ 1 ∧ floorE = (ε : EReal) := by
  refine ⟨(1 * (2 ^ 23 + 2245216 : ℕ) * (2 : ℝ) ^ ((27 : ℤ) - 127 - 23) : ℝ), ?_, ?_, ?_⟩
  · positivity
  · norm_num [zpow_neg]
  · show Ideal.ieee 8 23 (0x0DA24260#32) = _
    unfold Ideal.ieee
    simp only []
    rw [if_neg (by decide), if_neg (by decide), if_neg (by decide)]
    have e1 : (BitVec.extractLsb' 23 8 (0x0DA24260#32)).toNat = 27 := by decide
    have e2 : (BitVec.extractLsb' 0 23 (0x0DA24260#32)).toNat = 2245216 := by decide
    rw [e1, e2]
    refine congrArg (fun r : ℝ => (r : EReal)) ?_
    norm_num

/-- The running form over the scores in base two is the plain form. -/
theorem running_eq (μ : ℕ → Prop) [DecidablePred μ] (s v : ℕ → EReal) :
    acc (fun j => refScore μ s j * (κ2 : EReal)) v 8192 * Ideal.div 1 (acc (fun j => refScore μ s j * (κ2 : EReal)) (fun _ => 1) 8192) = refOut μ s v := by
  obtain ⟨ε, h0, h1, he⟩ := floor_eq
  rw [normalize _ _ _ h0 h1, refOut, he]
  have hw : ∀ j ∈ range 8192, weight μ s j = E (refScore μ s j * (κ2 : EReal) - top (fun j => refScore μ s j * (κ2 : EReal)) 8192) :=
    fun j hj => refWeight_eq μ s 8192 j (mem_range.mp hj)
  rw [Finset.sum_congr rfl hw]
  exact Finset.sum_congr rfl fun j hj => by rw [hw j hj]

/-- A scaled dot product in base two. -/
theorem dot_scale {ι : Type*} (T : Finset ι) (q k : ι → EReal) :
    ∑ d ∈ T, q d * ((scaleR * κ2 : ℝ) : EReal) * k d = (∑ d ∈ T, q d * k d) * (scaleR : EReal) * (κ2 : EReal) := by
  have hp : (0 : EReal) ≤ ((scaleR * κ2 : ℝ) : EReal) := by
    have : 0 ≤ scaleR * κ2 := mul_nonneg (by norm_num [scaleR]) κ2_pos.le
    exact_mod_cast this
  rw [mul_assoc, ← EReal.coe_mul, mul_comm (∑ d ∈ T, q d * k d), mul_sum_of_nonneg _ _ hp (EReal.coe_ne_top _)]
  exact Finset.sum_congr rfl fun d _ => by rw [mul_comm (q d), mul_assoc]

/-- The penalty of a key: zero where its block is chosen, else `⊥`. -/
theorem penalty (ch : Fin 128 → Prop) [DecidablePred ch] (k : Fin 128) :
    ∑ b : Fin 128, ((if ch b then (0 : EReal) else 1) * ⊥) * (if k = b then (1 : EReal) else 0) = if ch k then 0 else ⊥ := by
  rw [Finset.sum_eq_single k]
  · rw [if_pos rfl, mul_one]
    split_ifs
    · exact zero_mul _
    · exact one_mul _
  · intro b _ hb
    rw [if_neg (Ne.symm hb), mul_zero]
  · intro h; exact absurd (Finset.mem_univ _) h

end Cert.Softmax

namespace Cert.KernelIdeal.Att

open Idealize.ShloMosaic Idealize.ShloMosaic.TcCoe
open Cert.KernelIdeal.Gen Cert.Softmax

/-- A block's 256 columns: the values, then ones. -/
def wide (V : ℕ → Fin 128 → EReal) (c : Fin 256) (j : ℕ) : EReal := if h : c.val < 128 then V j ⟨c.val, h⟩ else 1

theorem wide_left (V : ℕ → Fin 128 → EReal) (l : Fin 128) : wide V ⟨l.val, by omega⟩ = fun j => V j l := by
  funext j; exact dif_pos l.isLt
theorem wide_right (V : ℕ → Fin 128 → EReal) (l : Fin 128) : wide V ⟨128 + l.val, by omega⟩ = fun _ => 1 := by
  funext j; exact dif_neg (by simp)

section Row

variable (x0 : Vec Ideal S1x4x512x128 .f32) (x1 x2 : Vec Ideal S1x1x1x8192x256 .bf16) (x3 x4 x5 x6 : Vec Ideal S1x1x1x512x256 .bf16)
    (x7 : Vec Ideal S3x512x512 .f32) (x8 : Vec Ideal S1x1x512x128 .bf16) (x9 : Vec Ideal S1x4x512x128 .f32) (x10 : Vec Ideal S1x1x512x128 .f32)
    (n : ℕ) (R : Fin 2048) (Q : Fin 128 → EReal) (K V KW VW : ℕ → Fin 128 → EReal) (ch : Fin 128 → Prop) [DecidablePred ch]

theorem lt_256 (d : Fin 128) : d.val < 256 := by omega
theorem lt_256' (d : Fin 128) : 128 + d.val < 256 := by omega

/-- The 256-wide contraction in two halves. -/
theorem sum_halves (f : Fin 256 → EReal) : ∑ d : Fin 256, f d = ∑ d : Fin 128, f ⟨d.val, by omega⟩ + ∑ d : Fin 128, f ⟨128 + d.val, by omega⟩ :=
  Fin.sum_univ_add (a := 128) (b := 128) f

theorem scale_split : (((11863283 / 134217728) * (Real.log 2)⁻¹ : ℝ) : EReal) = ((scaleR * κ2 : ℝ) : EReal) := rfl

/-- The scaled dot product of the row with key `j`. -/
abbrev dotS (Q : Fin 128 → EReal) (K : ℕ → Fin 128 → EReal) (j : ℕ) : EReal := (∑ d : Fin 128, Q d * K j d) * (scaleR : EReal)

/-- The mask of the selected branch: the key's block is chosen, and the key is not after the row. -/
abbrev muS (ch : Fin 128 → Prop) (t j : ℕ) : Prop := ch ⟨j / 64 % 128, Nat.mod_lt _ (Nat.succ_pos 127)⟩ ∧ j ≤ t

/-- The mask of the window: the last 512 keys up to the row. -/
abbrev muW (t j : ℕ) : Prop := j ≤ t ∧ t < j + 512

variable (hQ : ∀ d, x0 (ix4 0 ⟨R.val / 512, Nat.div_lt_of_lt_mul (n := 512) (k := 4) R.isLt⟩ ⟨R.val % 512, Nat.mod_lt _ (Nat.succ_pos 511)⟩ d) = Q d)
  (hU : ∀ b, x8 (ix4 0 0 ⟨R.val % 512, Nat.mod_lt _ (Nat.succ_pos 511)⟩ b) = if ch b then (0 : EReal) else 1)

include hQ in
theorem qa_l (d : Fin 128) : qa x0 x8 (ix2 R ⟨d.val, by omega⟩) = Q d * ((scaleR * κ2 : ℝ) : EReal) := by
  rw [qa_left _ _ _ _ d.isLt, pay11_at, hQ, scale_split]

include hU in
theorem qa_r (d : Fin 128) : qa x0 x8 (ix2 R ⟨128 + d.val, by omega⟩) = (if ch d then (0 : EReal) else 1) * ⊥ := by
  rw [qa_right _ _ _ _ (by simp), pay12_at]
  have e : (⟨(⟨128 + d.val, by omega⟩ : Fin 256).val - 128, by simp⟩ : Fin 128) = d := Fin.ext (by simp)
  rw [e, hU]

variable (hK : ∀ (j : ℕ) (hj : j < 8192) (d : Fin 128), x1 (ix5 0 0 0 ⟨j, hj⟩ ⟨d.val, lt_256 d⟩) = K j d)
  (hB : ∀ (j : ℕ) (hj : j < 8192) (b : Fin 128), x1 (ix5 0 0 0 ⟨j, hj⟩ ⟨128 + b.val, lt_256' b⟩) = if j / 64 = b.val then (1 : EReal) else 0)
  (hV : ∀ (j : ℕ) (hj : j < 8192) (c : Fin 256), x2 (ix5 0 0 0 ⟨j, hj⟩ c) = wide V c j)

include hQ hU hK hB in
/-- The score of a key of the selected branch, before the causal mask. -/
theorem scoreS (o : ℕ) (x : Fin 512) (ho : o + x.val < 8192) :
    k0_pay15 (qa x0 x8) (rows x1 o) (ix2 R x)
      = dotS Q K (o + x.val) * (κ2 : EReal) + if ch ⟨(o + x.val) / 64 % 128, Nat.mod_lt _ (by norm_num)⟩ then 0 else ⊥ := by
  rw [pay15_at, sum_halves]
  refine congrArg₂ (fun x y : EReal => x + y) ?_ ?_
  · rw [dotS, ← dot_scale]
    refine Finset.sum_congr rfl fun d _ => ?_
    rw [qa_l x0 x8 R Q hQ, rows_at _ _ _ _ ho, hK]
  · rw [← penalty]
    refine Finset.sum_congr rfl fun b _ => ?_
    rw [qa_r x0 x8 R ch hU, rows_at _ _ _ _ ho, hB]
    refine congrArg (fun x : EReal => (if ch b then (0 : EReal) else 1) * ⊥ * x) ?_
    have hlt : (o + x.val) / 64 % 128 = (o + x.val) / 64 := Nat.mod_eq_of_lt (by omega)
    simp only [Fin.ext_iff, hlt]

/-- The selected branch's score of key `j` in base two. -/
abbrev SS (Q : Fin 128 → EReal) (K : ℕ → Fin 128 → EReal) (ch : Fin 128 → Prop) [DecidablePred ch] (t : ℕ) (j : ℕ) : EReal :=
  refScore (muS ch t) (dotS Q K) j * (κ2 : EReal)

theorem SS_eq (t j : ℕ) : SS Q K ch t j = if muS ch t j then dotS Q K j * (κ2 : EReal) else ⊥ := by
  unfold SS refScore
  split_ifs
  · rfl
  · exact bot_mul_κ2

include hQ hU hK hB hV in
/-- The loop's state over the earlier key blocks. -/
theorem st_at (hn : n < 16) (k : ℕ) (hk : k ≤ n) (c : Fin 256) :
    (∀ l, (st (qa x0 x8) x1 x2 k).1 (ix3 0 R l) = top (SS Q K ch (512 * n + R.val % 512)) (512 * k))
    ∧ (st (qa x0 x8) x1 x2 k).2 (ix3 0 R c) = acc (SS Q K ch (512 * n + R.val % 512)) (wide V c) (512 * k) := by
  induction k with
  | zero => exact ⟨fun l => m0_at R l, a0_at R c⟩
  | succ k ih =>
    obtain ⟨h1, h2⟩ := ih (by omega)
    have := step_at (k0_pay15 (qa x0 x8) (rows x1 (512 * k))) (st (qa x0 x8) x1 x2 k).1 (rows x2 (512 * k)) (st (qa x0 x8) x1 x2 k).2 R c
      (SS Q K ch (512 * n + R.val % 512)) (wide V c) (512 * k) (fun x => by
        have hx := x.isLt
        rw [scoreS x0 x1 x8 R Q K ch hQ hU hK hB (512 * k) x (by omega), SS_eq]
        by_cases hc : ch ⟨(512 * k + x.val) / 64 % 128, Nat.mod_lt _ (by norm_num)⟩
        · rw [if_pos hc, if_pos ⟨hc, by omega⟩, add_zero]
        · rw [if_neg hc, if_neg (fun h => hc h.1), EReal.add_bot]) (fun x => by
        have hx := x.isLt
        rw [rows_at _ _ _ _ (by omega), hV]) h1 h2
    rw [show 512 * (k + 1) = 512 * k + 512 by ring]
    exact this

variable (hT0 : ∀ a b : Fin 512, x7 (ix3 0 a b) = if b.val ≤ a.val then (0 : EReal) else 1)
  (hT1 : ∀ a b : Fin 512, x7 (ix3 1 a b) = if a.val < b.val then (0 : EReal) else 1)
  (hT2 : ∀ a b : Fin 512, x7 (ix3 2 a b) = (1 : EReal))

theorem add_mask (x : EReal) (p : Prop) [Decidable p] : x + (if p then (0 : EReal) else 1) * ⊥ = if p then x else ⊥ := by
  split_ifs
  · rw [zero_mul, add_zero]
  · rw [one_mul, EReal.add_bot]

include hQ hU hK hB hV hT0 in
/-- The selected branch's accumulator at the end. -/
theorem slc_at (hn : n < 16) (c : Fin 256) :
    slcAcc (qa x0 x8) x1 x2 x7 n (ix3 0 R c) = acc (SS Q K ch (512 * n + R.val % 512)) (wide V c) 8192 := by
  obtain ⟨h1, h2⟩ := st_at x0 x1 x2 x8 n R Q K V ch hQ hU hK hB hV hn n le_rfl c
  have := (step_at (msk (k0_pay15 (qa x0 x8) (rows x1 (512 * n))) (layer x7 0)) (st (qa x0 x8) x1 x2 n).1 (rows x2 (512 * n)) (st (qa x0 x8) x1 x2 n).2 R c
      (SS Q K ch (512 * n + R.val % 512)) (wide V c) (512 * n) (fun x => by
        have hx := x.isLt
        rw [msk_at, layer_at, hT0, scoreS x0 x1 x8 R Q K ch hQ hU hK hB (512 * n) x (by omega), SS_eq, add_mask]
        by_cases hc : ch ⟨(512 * n + x.val) / 64 % 128, Nat.mod_lt _ (by norm_num)⟩
        · rw [if_pos hc, add_zero]
          by_cases hle : x.val ≤ R.val % 512
          · rw [if_pos hle, if_pos ⟨hc, by omega⟩]
          · rw [if_neg hle, if_neg (fun h => hle (by have := h.2; omega))]
        · rw [if_neg hc, EReal.add_bot, ite_self, if_neg (fun h => hc h.1)]) (fun x => by
        have hx := x.isLt
        rw [rows_at _ _ _ _ (by omega), hV]) h1 h2).2
  unfold slcAcc
  rw [this]
  have hR : R.val % 512 < 512 := Nat.mod_lt _ (by norm_num)
  refine acc_embed _ _ _ _ id (fun i hi => Or.inl (by simp only [id]; omega)) (fun _ _ _ => rfl) (fun _ _ _ => rfl) (fun _ _ _ _ _ _ h => h) fun j hj hne => ⟨j, ?_, rfl, rfl⟩
  by_contra hlt
  apply hne
  rw [SS_eq, if_neg]
  rintro ⟨_, h⟩
  omega

variable (hKo : ∀ (x : Fin 512) (d : Fin 128), x3 (ix5 0 0 0 x ⟨d.val, lt_256 d⟩) = KW (512 * (n - 1) + x.val) d)
  (hKo0 : ∀ (x : Fin 512) (d : Fin 128), x3 (ix5 0 0 0 x ⟨128 + d.val, lt_256' d⟩) = (0 : EReal))
  (hVo : ∀ (x : Fin 512) (c : Fin 256), x4 (ix5 0 0 0 x c) = wide VW c (512 * (n - 1) + x.val))
  (hKn : ∀ (x : Fin 512) (d : Fin 128), x5 (ix5 0 0 0 x ⟨d.val, lt_256 d⟩) = KW (512 * n + x.val) d)
  (hKn0 : ∀ (x : Fin 512) (d : Fin 128), x5 (ix5 0 0 0 x ⟨128 + d.val, lt_256' d⟩) = (0 : EReal))
  (hVn : ∀ (x : Fin 512) (c : Fin 256), x6 (ix5 0 0 0 x c) = wide VW c (512 * n + x.val))

include hQ in
/-- The score of a key of the window, before its mask. -/
theorem scoreW (y : Vec Ideal S1x1x1x512x256 .bf16) (o : ℕ) (h : ∀ (x : Fin 512) (d : Fin 128), y (ix5 0 0 0 x ⟨d.val, by omega⟩) = KW (o + x.val) d)
    (h0 : ∀ (x : Fin 512) (d : Fin 128), y (ix5 0 0 0 x ⟨128 + d.val, by omega⟩) = (0 : EReal)) (x : Fin 512) :
    k0_pay15 (qa x0 x8) y (ix2 R x) = dotS Q KW (o + x.val) * (κ2 : EReal) := by
  rw [pay15_at, sum_halves]
  have e2 : ∑ d : Fin 128, qa x0 x8 (ix2 R ⟨128 + d.val, by omega⟩) * y (ix5 0 0 0 x ⟨128 + d.val, by omega⟩) = 0 :=
    Finset.sum_eq_zero fun d _ => by rw [h0, mul_zero]
  rw [e2, add_zero, dotS, ← dot_scale]
  refine Finset.sum_congr rfl fun d _ => ?_
  rw [qa_l x0 x8 R Q hQ, h]

/-- The key at place `y` of the window's two blocks. -/
def place (n y : ℕ) : ℕ := if y < 512 then 512 * (n - 1) + y else 512 * n + (y - 512)

/-- The window's score at place `y`. -/
def SP (Q : Fin 128 → EReal) (KW : ℕ → Fin 128 → EReal) (n i y : ℕ) : EReal :=
  if (y < 512 ∧ 0 < n ∧ i < y) ∨ (512 ≤ y ∧ y - 512 ≤ i) then dotS Q KW (place n y) * (κ2 : EReal) else ⊥

/-- The window branch's score of key `j` in base two. -/
abbrev SW (Q : Fin 128 → EReal) (KW : ℕ → Fin 128 → EReal) (t : ℕ) (j : ℕ) : EReal :=
  refScore (muW t) (dotS Q KW) j * (κ2 : EReal)

theorem SW_eq (t j : ℕ) : SW Q KW t j = if muW t j then dotS Q KW j * (κ2 : EReal) else ⊥ := by
  unfold SW refScore
  split_ifs
  · rfl
  · exact bot_mul_κ2

include hT1 hT2 in
theorem oldTri_at (a b : Fin 512) : oldTri x7 n (ix3 0 a b) = if 0 < n ∧ a.val < b.val then (0 : EReal) else 1 := by
  unfold oldTri oldKind
  by_cases h : 0 < n
  · simp only [if_pos h]
    rw [layer_at, hT1]
    simp only [h, true_and]
  · simp only [if_neg h]
    rw [layer_at, hT2, if_neg (fun h' => h h'.1)]

include hQ hT0 hT1 hT2 hKo hKo0 hVo hKn hKn0 hVn in
/-- The window branch's accumulator at the end. -/
theorem win_at (hn : n < 16) (c : Fin 256) :
    winAcc (qa x0 x8) x3 x4 x5 x6 x7 n (ix3 0 R c) = acc (SW Q KW (512 * n + R.val % 512)) (wide VW c) 8192 := by
  have hR : R.val % 512 < 512 := Nat.mod_lt _ (by norm_num)
  obtain ⟨h1, h2⟩ := step_at (msk (k0_pay15 (qa x0 x8) x3) (oldTri x7 n)) m0 x4 a0 R c
      (SP Q KW n (R.val % 512)) (fun y => wide VW c (place n y)) 0 (fun x => by
        have hx := x.isLt
        rw [msk_at, oldTri_at x7 n hT1 hT2, scoreW x0 x8 R Q KW hQ x3 _ hKo hKo0, add_mask, zero_add, SP, place, if_pos hx]
        refine if_congr ?_ rfl rfl
        constructor
        · rintro ⟨h1, h2⟩; exact Or.inl ⟨hx, h1, h2⟩
        · rintro (⟨_, h1, h2⟩ | ⟨h, _⟩)
          · exact ⟨h1, h2⟩
          · omega) (fun x => by
        have hx := x.isLt
        rw [hVo, zero_add]
        simp only [place, if_pos hx]) (fun l => m0_at R l) (a0_at R c)
  have := (step_at (msk (k0_pay15 (qa x0 x8) x5) (layer x7 0)) (k0_pay6 (msk (k0_pay15 (qa x0 x8) x3) (oldTri x7 n)) m0) x6
      (k0_pay5 (msk (k0_pay15 (qa x0 x8) x3) (oldTri x7 n)) m0 x4 a0) R c
      (SP Q KW n (R.val % 512)) (fun y => wide VW c (place n y)) 512 (fun x => by
        have hx := x.isLt
        have pl : place n (512 + x.val) = 512 * n + x.val := by
          unfold place; rw [if_neg (by omega)]; omega
        rw [msk_at, layer_at, hT0, scoreW x0 x8 R Q KW hQ x5 _ hKn hKn0, add_mask, SP, pl,
          show 512 + x.val - 512 = x.val by omega]
        refine if_congr ?_ rfl rfl
        constructor
        · intro h; exact Or.inr ⟨by omega, h⟩
        · rintro (⟨h, _⟩ | ⟨_, h⟩)
          · omega
          · exact h) (fun x => by
        rw [hVn]
        simp only [place]
        rw [if_neg (by omega), show 512 + x.val - 512 = x.val by omega]) h1 h2).2
  unfold winAcc
  rw [this]
  have key : ∀ y < 1024, ∀ p : (y < 512 ∧ 0 < n ∧ R.val % 512 < y) ∨ (512 ≤ y ∧ y - 512 ≤ R.val % 512),
      muW (512 * n + R.val % 512) (place n y) := by
    intro y hy p
    unfold place muW
    rcases p with ⟨h1, h2, h3⟩ | ⟨h1, h2⟩
    · rw [if_pos h1]; omega
    · rw [if_neg (by omega)]; omega
  have hSP : ∀ y, SP Q KW n (R.val % 512) y ≠ ⊥ → (y < 512 ∧ 0 < n ∧ R.val % 512 < y) ∨ (512 ≤ y ∧ y - 512 ≤ R.val % 512) := by
    intro y h
    by_contra hc
    exact h (if_neg hc)
  refine acc_embed _ _ _ _ (place n) (fun y hy => ?_) (fun y hy h => ?_) (fun _ _ _ => rfl) (fun y hy y' hy' h h' e => ?_) fun j hj hne => ?_
  · left; unfold place; split_ifs <;> omega
  · have p := hSP y h
    rw [SW_eq, if_pos (key y hy p), SP, if_pos p]
  · have p := hSP y h
    have p' := hSP y' h'
    unfold place at e
    split_ifs at e <;> omega
  · have hm : muW (512 * n + R.val % 512) j := by
      by_contra hc
      exact hne (by rw [SW_eq, if_neg hc])
    obtain ⟨hj1, hj2⟩ := hm
    by_cases hb : j < 512 * n
    · have pl : place n (j - 512 * (n - 1)) = j := by
        unfold place; rw [if_pos (by omega)]; omega
      refine ⟨j - 512 * (n - 1), by omega, pl, ?_⟩
      rw [SW_eq, if_pos ⟨hj1, hj2⟩, SP, if_pos (Or.inl (by omega)), pl]
    · have pl : place n (j - 512 * n + 512) = j := by
        unfold place; rw [if_neg (by omega)]; omega
      refine ⟨j - 512 * n + 512, by omega, pl, ?_⟩
      rw [SW_eq, if_pos ⟨hj1, hj2⟩, SP, if_pos (Or.inr (by omega)), pl]

include hQ hU hK hB hV hT0 hT1 hT2 hKo hKo0 hVo hKn hKn0 hVn in
/-- An element of the result: the gated sum of the compressed branch and the two softmaxes. -/
theorem out_at (hn : n < 16) (l : Fin 128) :
    outRows x0 x1 x2 x3 x4 x5 x6 x7 x8 x9 x10 n (ix2 R l)
      = x10 (ix4 0 0 ⟨R.val % 512, by omega⟩ ⟨3 * (R.val / 512), by omega⟩) * x9 (ix4 0 ⟨R.val / 512, by omega⟩ ⟨R.val % 512, by omega⟩ l)
        + x10 (ix4 0 0 ⟨R.val % 512, by omega⟩ ⟨3 * (R.val / 512) + 1, by omega⟩)
            * refOut (muS ch (512 * n + R.val % 512)) (dotS Q K) (fun j => V j l)
        + x10 (ix4 0 0 ⟨R.val % 512, by omega⟩ ⟨3 * (R.val / 512) + 2, by omega⟩)
            * refOut (muW (512 * n + R.val % 512)) (dotS Q KW) (fun j => VW j l) := by
  have hs := slc_at x0 x1 x2 x7 x8 n R Q K V ch hQ hU hK hB hV hT0 hn
  have hw := win_at x0 x3 x4 x5 x6 x7 x8 n R Q KW VW hQ hT0 hT1 hT2 hKo hKo0 hVo hKn hKn0 hVn hn
  unfold outRows
  rw [pay39_at, hs, hs, hw, hw, wide_left, wide_left, wide_right, wide_right, running_eq, running_eq]

end Row

end Cert.KernelIdeal.Att
-- ==== Proof.AttHost.lean ====
module

public import proofs.«01_k».proof.Proof.AttVal
public import proofs.«01_k».proof.Proof.AttBlocks
public import Idealize.ShloMosaic.Lib.StableHlo.ReadAt

/-! The operands of the idealized attention call, read at an index from the program's arguments. -/

@[expose] public section

set_option maxRecDepth 16384

noncomputable section

namespace Cert.KernelIdeal.Att

open Idealize.ShloMosaic Idealize.ShloMosaic.TcCoe
open Cert.KernelIdeal.Gen Cert.Softmax

variable (m : (ℓ : Loc nD τ sig) → Buf (Elt Ideal) ℓ) (c : Dev nD)

abbrev A0 : Vec Ideal S4x8192x12x128 .f32 := m ((c : Thread nD τ).loc main_arg0)
abbrev A1 : Vec Ideal S4x8192x3x128 .f32 := m ((c : Thread nD τ).loc main_arg1)
abbrev A2 : Vec Ideal S4x8192x3x128 .f32 := m ((c : Thread nD τ).loc main_arg2)
abbrev A3 : Vec Ideal S4x8192x3x128 .f32 := m ((c : Thread nD τ).loc main_arg3)
abbrev A4 : Vec Ideal S4x8192x3x128 .f32 := m ((c : Thread nD τ).loc main_arg4)
abbrev A5 : Vec Ideal S4x3x8192x128 .i32 := m ((c : Thread nD τ).loc main_arg5)
abbrev A6 : Vec Ideal S4x12x8192x128 .f32 := m ((c : Thread nD τ).loc main_arg6)
abbrev A7 : Vec Ideal S4x8192x36 .f32 := m ((c : Thread nD τ).loc main_arg7)

theorem v0_at (b : Fin 4) (h : Fin 12) (t : Fin 8192) (d : Fin 128) :
    (V m c main_v0 : Vec Ideal S4x12x8192x128 .f32) (ix4 b h t d) = A0 m c (ix4 b t h d) := by
  unfold V
  after_reads_at

/-- A select on a comparison of words for inequality. -/
theorem select_ne {α : Type} (x y : BitVec 32) (u v : α) : Scalar.select (IntOp.cmpi .ne x y) u v = if x ≠ y then u else v := by
  unfold Scalar.select IntOp.cmpi
  by_cases h : x = y
  · simp [h]
  · have : (x != y) = true := by simpa using h
    simp [h, this]

/-- A select on a comparison of words for equality. -/
theorem select_eq {α : Type} (x y : BitVec 32) (u v : α) : Scalar.select (IntOp.cmpi .eq x y) u v = if x = y then u else v := by
  unfold Scalar.select IntOp.cmpi
  by_cases h : x = y
  · simp [h]
  · have : (x == y) = false := by simpa using h
    simp [h, this]

/-- The unselected blocks, as zeros and ones. -/
theorem v31_at (b : Fin 4) (h : Fin 3) (t : Fin 8192) (d : Fin 128) :
    (V m c main_v31 : Vec Ideal S4x3x8192x128 .bf16) (ix4 b h t d) = if A5 m c (ix4 b h t d) ≠ 0#32 then (0 : EReal) else 1 := by
  unfold V
  after_reads_at
  exact select_ne _ _ _ _

/-- The gates of a group of heads. -/
theorem v40_at (b : Fin 4) (h : Fin 3) (t : Fin 8192) (d : Fin 128) (hd : d.val < 12) :
    (V m c main_v40 : Vec Ideal S4x3x8192x128 .f32) (ix4 b h t d) = Ideal.logistic (A7 m c (ix3 b t ⟨12 * h.val + d.val, by omega⟩)) := by
  unfold V
  after_reads_at
  rw [dif_pos hd]
  have hi : (⟨h.val * 12 + d.val, by omega⟩ : Fin 36) = ⟨12 * h.val + d.val, by omega⟩ := by ext; simp only; omega
  rw [hi]
  rfl

/-- The word of a key's block index. -/
theorem block_word (j : Fin 8192) :
    (Scalar.select
            (IntOp.andi
              (IntOp.cmpi CmpIPredicate.ne
                (if BitVec.ofNat 32 j.val = 0 then (0 : BitVec 32) else if (BitVec.ofNat 32 j.val).msb = true then -1 else 1)
                (if (64#32) = 0 then (0 : BitVec 32)
                else if BitVec.msb (64#32) = true then -1 else 1))
              (IntOp.cmpi CmpIPredicate.ne
                (IntOp.remsi ArithUnit.host (BitVec.ofNat 32 j.val) (64#32)) 0#32))
            (IntOp.subi (IntOp.divsi ArithUnit.host (BitVec.ofNat 32 j.val) (64#32)) 1#32)
            (IntOp.divsi ArithUnit.host (BitVec.ofNat 32 j.val) (64#32))) = BitVec.ofNat 32 (j.val / 64) := by
  revert j
  decide +kernel

theorem ofNat_eq_iff {a b : ℕ} (ha : a < 8192) (hb : b < 8192) : BitVec.ofNat 32 a = BitVec.ofNat 32 b ↔ a = b := by
  constructor
  · intro h
    have := congrArg BitVec.toNat h
    simp only [BitVec.toNat_ofNat] at this
    omega
  · rintro rfl; rfl

/-- The keys: the heads' keys with the blocks' one-hot columns, then the window's keys with zeros. -/
theorem v18_at (b : Fin 4) (g : Fin 3) (e : Fin 2) (j : Fin 8192) (d : Fin 256) :
    (V m c main_v18 : Vec Ideal S4x3x2x8192x256 .bf16) (ix5 b g e j d) =
      if e.val < 1 then
        if h : d.val < 128 then A1 m c (ix4 b j g ⟨d.val, h⟩) else if j.val / 64 = d.val - 128 then 1 else 0
      else if h : d.val < 128 then A3 m c (ix4 b j g ⟨d.val, h⟩) else 0 := by
  unfold V
  after_reads_at
  after_reads_at
  rw [dite_eq_ite]
  refine if_congr Iff.rfl ?_ rfl
  refine dite_congr rfl (fun _ => rfl) fun _ => ?_
  have hw := block_word j
  refine Eq.trans ?_ (if_congr (ofNat_eq_iff (a := j.val / 64) (b := d.val - 128) (by omega) (by omega)) rfl rfl)
  rw [← hw]
  exact select_eq _ _ _ _

/-- The values, each branch's with ones. -/
theorem v27_at (b : Fin 4) (g : Fin 3) (e : Fin 2) (j : Fin 8192) (d : Fin 256) :
    (V m c main_v27 : Vec Ideal S4x3x2x8192x256 .bf16) (ix5 b g e j d) =
      if e.val < 1 then if h : d.val < 128 then A2 m c (ix4 b j g ⟨d.val, h⟩) else 1
      else if h : d.val < 128 then A4 m c (ix4 b j g ⟨d.val, h⟩) else 1 := by
  unfold V
  after_reads_at
  after_reads_at
  rfl

/-- A small word read as an integer. -/
theorem toInt_word {a : ℕ} (ha : a < 8192) : (BitVec.ofNat 32 a).toInt = a := by
  rw [BitVec.toInt_eq_toNat_of_lt (by rw [BitVec.toNat_ofNat]; omega), BitVec.toNat_ofNat]
  omega

theorem le_word (a b : Fin 512) : Scalar.select (IntOp.cmpi CmpIPredicate.sle (BitVec.ofNat 32 b.val) (BitVec.ofNat 32 a.val)) (0 : EReal) 1 = if b.val ≤ a.val then (0 : EReal) else 1 := by
  have h1 := toInt_word (a := b.val) (by omega)
  have h2 := toInt_word (a := a.val) (by omega)
  unfold Scalar.select IntOp.cmpi
  by_cases h : b.val ≤ a.val
  · simp [BitVec.sle, h1, h2, h]
  · simp [BitVec.sle, h1, h2, h]

theorem gt_word (a b : Fin 512) : Scalar.select (IntOp.cmpi CmpIPredicate.sgt (BitVec.ofNat 32 b.val) (BitVec.ofNat 32 a.val)) (0 : EReal) 1 = if a.val < b.val then (0 : EReal) else 1 := by
  have h1 := toInt_word (a := b.val) (by omega)
  have h2 := toInt_word (a := a.val) (by omega)
  unfold Scalar.select IntOp.cmpi
  by_cases h : a.val < b.val
  · simp [BitVec.slt, h1, h2, h]
  · simp [BitVec.slt, h1, h2, h]

/-- The three layers of the triangle. -/
theorem v51_at (k : Fin 3) (a b : Fin 512) :
    (V m c main_v51 : Vec Ideal S3x512x512 .f32) (ix3 k a b) =
      if k.val < 1 then (if b.val ≤ a.val then (0 : EReal) else 1) else if k.val - 1 < 1 then (if a.val < b.val then (0 : EReal) else 1) else 1 := by
  unfold V
  after_reads_at
  after_reads_at
  rw [le_word, gt_word]
  rfl

end Cert.KernelIdeal.Att
-- ==== Proof.AttBlk.lean ====
module

public import proofs.«01_k».proof.Proof.AttHost
public import Idealize.ShloMosaic.Lib.Pipeline.ValueKit.Point

@[expose] public section

noncomputable section

namespace Cert.KernelIdeal.Att

open Cert.KernelIdeal Cert.KernelIdeal.Gen Idealize.ShloMosaic Idealize.ShloMosaic.TcCoe Idealize.SL.Sem

variable (m : (ℓ : Loc nD τ sig) → Buf (Elt Idealize.ShloMosaic.Ideal) ℓ) (c : Dev nD)

/-- The batch of a grid point. -/
abbrev gb (t : Fin cfg0.N) : Fin 4 := grid0.coords t 0
/-- The group of heads of a grid point. -/
abbrev gg (t : Fin cfg0.N) : Fin 3 := grid0.coords t 1
/-- The tile of query rows of a grid point. -/
abbrev gn (t : Fin cfg0.N) : Fin 16 := grid0.coords t 2

/-- Where each window's block lies. -/
theorem places : ∀ t : Fin cfg0.N,
    win0_0.index t = ![(gb t).val, (gg t).val, (gn t).val, 0] ∧
    win0_1.index t = ![(gb t).val, (gg t).val, 0, 0, 0] ∧
    win0_2.index t = ![(gb t).val, (gg t).val, 0, 0, 0] ∧
    win0_3.index t = ![(gb t).val, (gg t).val, 1, (gn t).val - 1, 0] ∧
    win0_4.index t = ![(gb t).val, (gg t).val, 1, (gn t).val - 1, 0] ∧
    win0_5.index t = ![(gb t).val, (gg t).val, 1, (gn t).val, 0] ∧
    win0_6.index t = ![(gb t).val, (gg t).val, 1, (gn t).val, 0] ∧
    win0_7.index t = ![0, 0, 0] ∧
    win0_8.index t = ![(gb t).val, (gg t).val, (gn t).val, 0] ∧
    win0_9.index t = ![(gb t).val, (gg t).val, (gn t).val, 0] ∧
    win0_10.index t = ![(gb t).val, (gg t).val, (gn t).val, 0] ∧
    win0_11.index t = ![(gb t).val, (gn t).val, (gg t).val] :=
  (by decide +kernel : ∀ t : Fin grid0.N, _)

theorem blk0 (t : Fin cfg0.N) (r : Fin 4) (i : Fin 512) (d : Fin 128) :
    (iblk m c 0 t : Vec Ideal S1x4x512x128 .f32) (ix4 0 r i d) =
      (V m c main_v0 : Vec Ideal S4x12x8192x128 .f32) (ix4 (gb t) ⟨4 * (gg t).val + r.val, by omega⟩ ⟨512 * (gn t).val + i.val, by omega⟩ d) := by
  have h := (places t).1
  blk_ext [iblk, h]

/-- Window 1: a group's whole `main_v18`, first branch. -/
theorem blk1 (t : Fin cfg0.N) (j : Fin 8192) (d : Fin 256) :
    (iblk m c 1 t : Vec Ideal S1x1x1x8192x256 .bf16) (ix5 0 0 0 j d) =
      (V m c main_v18 : Vec Ideal S4x3x2x8192x256 .bf16) (ix5 (gb t) (gg t) 0 j d) := by
  have h := (places t).2.1
  blk_ext [iblk, h]

/-- Window 2: a group's whole `main_v27`, first branch. -/
theorem blk2 (t : Fin cfg0.N) (j : Fin 8192) (d : Fin 256) :
    (iblk m c 2 t : Vec Ideal S1x1x1x8192x256 .bf16) (ix5 0 0 0 j d) =
      (V m c main_v27 : Vec Ideal S4x3x2x8192x256 .bf16) (ix5 (gb t) (gg t) 0 j d) := by
  have h := (places t).2.2.1
  blk_ext [iblk, h]

/-- Window 3: the tile before of `main_v18`, second branch. -/
theorem blk3 (t : Fin cfg0.N) (x : Fin 512) (d : Fin 256) :
    (iblk m c 3 t : Vec Ideal S1x1x1x512x256 .bf16) (ix5 0 0 0 x d) =
      (V m c main_v18 : Vec Ideal S4x3x2x8192x256 .bf16) (ix5 (gb t) (gg t) 1 ⟨512 * ((gn t).val - 1) + x.val, by omega⟩ d) := by
  have h := (places t).2.2.2.1
  blk_ext [iblk, h]

/-- Window 4: the tile before of `main_v27`, second branch. -/
theorem blk4 (t : Fin cfg0.N) (x : Fin 512) (d : Fin 256) :
    (iblk m c 4 t : Vec Ideal S1x1x1x512x256 .bf16) (ix5 0 0 0 x d) =
      (V m c main_v27 : Vec Ideal S4x3x2x8192x256 .bf16) (ix5 (gb t) (gg t) 1 ⟨512 * ((gn t).val - 1) + x.val, by omega⟩ d) := by
  have h := (places t).2.2.2.2.1
  blk_ext [iblk, h]

/-- Window 5: the tile of `main_v18`, second branch. -/
theorem blk5 (t : Fin cfg0.N) (x : Fin 512) (d : Fin 256) :
    (iblk m c 5 t : Vec Ideal S1x1x1x512x256 .bf16) (ix5 0 0 0 x d) =
      (V m c main_v18 : Vec Ideal S4x3x2x8192x256 .bf16) (ix5 (gb t) (gg t) 1 ⟨512 * (gn t).val + x.val, by omega⟩ d) := by
  have h := (places t).2.2.2.2.2.1
  blk_ext [iblk, h]

/-- Window 6: the tile of `main_v27`, second branch. -/
theorem blk6 (t : Fin cfg0.N) (x : Fin 512) (d : Fin 256) :
    (iblk m c 6 t : Vec Ideal S1x1x1x512x256 .bf16) (ix5 0 0 0 x d) =
      (V m c main_v27 : Vec Ideal S4x3x2x8192x256 .bf16) (ix5 (gb t) (gg t) 1 ⟨512 * (gn t).val + x.val, by omega⟩ d) := by
  have h := (places t).2.2.2.2.2.2.1
  blk_ext [iblk, h]

/-- Window 7: the triangle. -/
theorem blk7 (t : Fin cfg0.N) (k : Fin 3) (a b : Fin 512) :
    (iblk m c 7 t : Vec Ideal S3x512x512 .f32) (ix3 k a b) = (V m c main_v51 : Vec Ideal S3x512x512 .f32) (ix3 k a b) := by
  have h := (places t).2.2.2.2.2.2.2.1
  blk_ext [iblk, h]

/-- Window 8: a tile of the unselected blocks. -/
theorem blk8 (t : Fin cfg0.N) (i : Fin 512) (d : Fin 128) :
    (iblk m c 8 t : Vec Ideal S1x1x512x128 .bf16) (ix4 0 0 i d) =
      (V m c main_v31 : Vec Ideal S4x3x8192x128 .bf16) (ix4 (gb t) (gg t) ⟨512 * (gn t).val + i.val, by omega⟩ d) := by
  have h := (places t).2.2.2.2.2.2.2.2.1
  blk_ext [iblk, h]

/-- Window 9: a tile of the compressed branch's output. -/
theorem blk9 (t : Fin cfg0.N) (r : Fin 4) (i : Fin 512) (d : Fin 128) :
    (iblk m c 9 t : Vec Ideal S1x4x512x128 .f32) (ix4 0 r i d) =
      (V m c main_arg6 : Vec Ideal S4x12x8192x128 .f32) (ix4 (gb t) ⟨4 * (gg t).val + r.val, by omega⟩ ⟨512 * (gn t).val + i.val, by omega⟩ d) := by
  have h := (places t).2.2.2.2.2.2.2.2.2.1
  blk_ext [iblk, h]

/-- Window 10: a tile of the gates. -/
theorem blk10 (t : Fin cfg0.N) (i : Fin 512) (d : Fin 128) :
    (iblk m c 10 t : Vec Ideal S1x1x512x128 .f32) (ix4 0 0 i d) =
      (V m c main_v40 : Vec Ideal S4x3x8192x128 .f32) (ix4 (gb t) (gg t) ⟨512 * (gn t).val + i.val, by omega⟩ d) := by
  have h := (places t).2.2.2.2.2.2.2.2.2.2.1
  blk_ext [iblk, h]

end Cert.KernelIdeal.Att
-- ==== Proof.AttArr.lean ====
module

public import proofs.«01_k».proof.Proof.AttBlk

/-! The idealized attention's result as one array: every element is the gated sum of the compressed branch and of two
masked softmaxes over whole rows of keys. -/

@[expose] public section

set_option maxRecDepth 16384

noncomputable section

namespace Cert.Softmax

open Idealize.ShloMosaic Finset

/-- One head's keys or values, by token. -/
def col {n : ℕ} (A : (⟨4, ![4, 8192, n, 128]⟩ : Shape).Idx → EReal) (b : Fin 4) (g : Fin n) (j : ℕ) (d : Fin 128) : EReal :=
  if h : j < 8192 then A (ix4 b ⟨j, h⟩ g d) else 0

theorem col_of_lt {n : ℕ} (A : (⟨4, ![4, 8192, n, 128]⟩ : Shape).Idx → EReal) (b : Fin 4) (g : Fin n) (j : ℕ) (h : j < 8192) (d : Fin 128) :
    col A b g j d = A (ix4 b ⟨j, h⟩ g d) := dif_pos h

/-- Gated attention over the three branches, for head `4·g + r`, row `t` and column `l`. -/
def attn (q : (⟨4, ![4, 8192, 12, 128]⟩ : Shape).Idx → EReal) (ks vs kw vw : (⟨4, ![4, 8192, 3, 128]⟩ : Shape).Idx → EReal)
    (chosen : (⟨4, ![4, 3, 8192, 128]⟩ : Shape).Idx → BitVec 32) (oc : (⟨4, ![4, 12, 8192, 128]⟩ : Shape).Idx → EReal)
    (gate : (⟨3, ![4, 8192, 36]⟩ : Shape).Idx → EReal) (b : Fin 4) (g : Fin 3) (r : Fin 4) (t : Fin 8192) (l : Fin 128) : EReal :=
  Ideal.logistic (gate (ix3 b t ⟨12 * g.val + 3 * r.val, by omega⟩)) * oc (ix4 b ⟨4 * g.val + r.val, by omega⟩ t l)
    + Ideal.logistic (gate (ix3 b t ⟨12 * g.val + (3 * r.val + 1), by omega⟩))
        * refOut (fun j => chosen (ix4 b g t ⟨j / 64 % 128, Nat.mod_lt _ (by norm_num)⟩) ≠ 0#32 ∧ j ≤ t.val)
            (fun j => (∑ d : Fin 128, q (ix4 b t ⟨4 * g.val + r.val, by omega⟩ d) * col ks b g j d) * (scaleR : EReal)) (fun j => col vs b g j l)
    + Ideal.logistic (gate (ix3 b t ⟨12 * g.val + (3 * r.val + 2), by omega⟩))
        * refOut (fun j => j ≤ t.val ∧ t.val < j + 512)
            (fun j => (∑ d : Fin 128, q (ix4 b t ⟨4 * g.val + r.val, by omega⟩ d) * col kw b g j d) * (scaleR : EReal)) (fun j => col vw b g j l)

end Cert.Softmax

namespace Cert.KernelIdeal.Att

open Idealize.ShloMosaic Idealize.ShloMosaic.TcCoe
open Cert.KernelIdeal Cert.KernelIdeal.Gen Cert.Softmax

variable (m : (ℓ : Loc nD τ sig) → Buf (Elt Ideal) ℓ) (c : Dev nD)

theorem wide_lt (V : ℕ → Fin 128 → EReal) (x : Fin 256) (j : ℕ) (h : x.val < 128) : wide V x j = V j ⟨x.val, h⟩ := dif_pos h
theorem wide_ge (V : ℕ → Fin 128 → EReal) (x : Fin 256) (j : ℕ) (h : ¬ x.val < 128) : wide V x j = 1 := dif_neg h

theorem k_left (b : Fin 4) (g : Fin 3) (j : ℕ) (hj : j < 8192) (d : Fin 128) :
    (V m c main_v18 : Vec Ideal S4x3x2x8192x256 .bf16) (ix5 b g 0 ⟨j, hj⟩ ⟨d.val, by omega⟩) = col (A1 m c) b g j d := by
  rw [v18_at, if_pos (by decide), dif_pos (show d.val < 128 from d.isLt), col_of_lt _ _ _ _ hj]

theorem k_right (b : Fin 4) (g : Fin 3) (j : ℕ) (hj : j < 8192) (d : Fin 128) :
    (V m c main_v18 : Vec Ideal S4x3x2x8192x256 .bf16) (ix5 b g 0 ⟨j, hj⟩ ⟨128 + d.val, by omega⟩) = if j / 64 = d.val then (1 : EReal) else 0 := by
  rw [v18_at, if_pos (by decide), dif_neg (show ¬ 128 + d.val < 128 by omega)]
  exact if_congr (by simp only; omega) rfl rfl

theorem kw_left (b : Fin 4) (g : Fin 3) (j : ℕ) (hj : j < 8192) (d : Fin 128) :
    (V m c main_v18 : Vec Ideal S4x3x2x8192x256 .bf16) (ix5 b g 1 ⟨j, hj⟩ ⟨d.val, by omega⟩) = col (A3 m c) b g j d := by
  rw [v18_at, if_neg (by decide), dif_pos (show d.val < 128 from d.isLt), col_of_lt _ _ _ _ hj]

theorem kw_right (b : Fin 4) (g : Fin 3) (j : ℕ) (hj : j < 8192) (d : Fin 128) :
    (V m c main_v18 : Vec Ideal S4x3x2x8192x256 .bf16) (ix5 b g 1 ⟨j, hj⟩ ⟨128 + d.val, by omega⟩) = (0 : EReal) := by
  rw [v18_at, if_neg (by decide), dif_neg (show ¬ 128 + d.val < 128 by omega)]

theorem v_all (b : Fin 4) (g : Fin 3) (j : ℕ) (hj : j < 8192) (x : Fin 256) :
    (V m c main_v27 : Vec Ideal S4x3x2x8192x256 .bf16) (ix5 b g 0 ⟨j, hj⟩ x) = wide (col (A2 m c) b g) x j := by
  rw [v27_at, if_pos (by decide)]
  by_cases h : x.val < 128
  · rw [dif_pos h, wide_lt _ _ _ h, col_of_lt _ _ _ _ hj]
  · rw [dif_neg h, wide_ge _ _ _ h]

theorem vw_all (b : Fin 4) (g : Fin 3) (j : ℕ) (hj : j < 8192) (x : Fin 256) :
    (V m c main_v27 : Vec Ideal S4x3x2x8192x256 .bf16) (ix5 b g 1 ⟨j, hj⟩ x) = wide (col (A4 m c) b g) x j := by
  rw [v27_at, if_neg (by decide)]
  by_cases h : x.val < 128
  · rw [dif_pos h, wide_lt _ _ _ h, col_of_lt _ _ _ _ hj]
  · rw [dif_neg h, wide_ge _ _ _ h]

/-- The result's array. -/
def result (m : (ℓ : Loc nD τ sig) → Buf (Elt Ideal) ℓ) (c : Dev nD) : Vec Ideal S4x8192x1536 .f32 := fun y =>
  attn (A0 m c) (A1 m c) (A2 m c) (A3 m c) (A4 m c) (A5 m c) (A6 m c) (A7 m c) (y 0)
    ⟨(y 2).val / 512, by have : (y 2).val < 1536 := (y 2).isLt; omega⟩ ⟨(y 2).val / 128 % 4, by omega⟩ (y 1) ⟨(y 2).val % 128, by omega⟩

/-- What the rows of grid point `t` hold. -/
theorem rows_out (t : Fin cfg0.N) (r : Fin 4) (i : Fin 512) (l : Fin 128) :
    outRows (iblk m c 0 t) (iblk m c 1 t) (iblk m c 2 t) (iblk m c 3 t) (iblk m c 4 t) (iblk m c 5 t) (iblk m c 6 t) (iblk m c 7 t) (iblk m c 8 t) (iblk m c 9 t) (iblk m c 10 t) (gn t).val
        (ix2 ⟨512 * r.val + i.val, by omega⟩ l)
      = attn (A0 m c) (A1 m c) (A2 m c) (A3 m c) (A4 m c) (A5 m c) (A6 m c) (A7 m c) (gb t) (gg t) r ⟨512 * (gn t).val + i.val, by omega⟩ l := by
  have hr : (⟨(512 * r.val + i.val) / 512, by omega⟩ : Fin 4) = r := by ext; simp only; omega
  have hi : (⟨(512 * r.val + i.val) % 512, by omega⟩ : Fin 512) = i := by ext; simp only; omega
  have hrv : (512 * r.val + i.val) / 512 = r.val := by omega
  have hiv : (512 * r.val + i.val) % 512 = i.val := by omega
  have hQ : ∀ d, (iblk m c 0 t : Vec Ideal S1x4x512x128 .f32) (ix4 0 ⟨(512 * r.val + i.val) / 512, by omega⟩ ⟨(512 * r.val + i.val) % 512, by omega⟩ d)
      = A0 m c (ix4 (gb t) ⟨512 * (gn t).val + i.val, by omega⟩ ⟨4 * (gg t).val + r.val, by omega⟩ d) := fun d => by rw [hr, hi, blk0, v0_at]
  have hU : ∀ b, (iblk m c 8 t : Vec Ideal S1x1x512x128 .bf16) (ix4 0 0 ⟨(512 * r.val + i.val) % 512, by omega⟩ b)
      = if A5 m c (ix4 (gb t) (gg t) ⟨512 * (gn t).val + i.val, by omega⟩ b) ≠ 0#32 then (0 : EReal) else 1 := fun b => by rw [hi, blk8, v31_at]
  refine (out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (gn t).val
    ⟨512 * r.val + i.val, by omega⟩ (fun d => A0 m c (ix4 (gb t) ⟨512 * (gn t).val + i.val, by omega⟩ ⟨4 * (gg t).val + r.val, by omega⟩ d))
    (col (A1 m c) (gb t) (gg t)) (col (A2 m c) (gb t) (gg t)) (col (A3 m c) (gb t) (gg t)) (col (A4 m c) (gb t) (gg t))
    (fun b => A5 m c (ix4 (gb t) (gg t) ⟨512 * (gn t).val + i.val, by omega⟩ b) ≠ 0#32)
    hQ hU (fun j hj d => ?_) (fun j hj b => ?_) (fun j hj x => ?_) (fun a b => ?_) (fun a b => ?_) (fun a b => ?_)
    (fun x d => ?_) (fun x d => ?_) (fun x d => ?_) (fun x d => ?_) (fun x d => ?_) (fun x d => ?_) (gn t).isLt l).trans ?_
  · rw [blk1, k_left]
  · rw [blk1, k_right]
  · rw [blk2, v_all]
  · rw [blk7, v51_at, if_pos (by decide)]
  · rw [blk7, v51_at, if_neg (by decide), if_pos (by decide)]
  · rw [blk7, v51_at, if_neg (by decide), if_neg (by decide)]
  · rw [blk3, kw_left]
  · rw [blk3, kw_right]
  · rw [blk4, vw_all]
  · rw [blk5, kw_left]
  · rw [blk5, kw_right]
  · rw [blk6, vw_all]
  · have hV6 : (V m c main_arg6 : Vec Ideal S4x12x8192x128 .f32) = A6 m c := V_main_arg6 m c
    simp only [hr, hi, hrv, hiv]
    rw [blk9, blk10, blk10, blk10, v40_at _ _ _ _ _ _ (by simp only; omega), v40_at _ _ _ _ _ _ (by simp only; omega), v40_at _ _ _ _ _ _ (by simp only; omega), hV6]
    rfl

end Cert.KernelIdeal.Att
-- ==== Proof.AttFin.lean ====
module

public import proofs.«01_k».proof.Proof.AttArr
public import Idealize.ShloMosaic.Lib.Pipeline.ValueKit.Tiles

/-! The idealized attention's array after its run. -/

@[expose] public section

set_option maxRecDepth 16384

noncomputable section

namespace Cert.KernelIdeal.Att

open Idealize.ShloMosaic Idealize.ShloMosaic.TcCoe
open Cert.KernelIdeal Cert.KernelIdeal.Gen Cert.Softmax
open Idealize.ShloMosaic.Pipeline (Dat)

section Pieces
variable (v186 : FVec Ideal S512x128 .f32) (v191 : FVec Ideal S2048x1 .f32) (v192 : Vec Ideal S1x4x512x128 .f32) (v202 v217 : Vec Ideal S1x2048x256 .f32)
variable (i : Fin 512) (l : Fin 128)

theorem pay40_at : k0_pay40 v186 v191 v192 v202 v217 (ix3 0 i l) = k0_pay39 v186 v191 v192 v202 v217 (ix2 ⟨i.val, by omega⟩ l) := by
  unfold k0_pay40
  generalize k0_pay39 v186 v191 v192 v202 v217 = X
  pointwise

theorem pay41_at : k0_pay41 v186 v191 v192 v202 v217 (ix3 0 i l) = k0_pay39 v186 v191 v192 v202 v217 (ix2 ⟨512 + i.val, by omega⟩ l) := by
  unfold k0_pay41
  generalize k0_pay39 v186 v191 v192 v202 v217 = X
  pointwise

theorem pay42_at : k0_pay1 (k0_pay42 v186 v191 v192 v202 v217) (ix3 0 i l) = k0_pay39 v186 v191 v192 v202 v217 (ix2 ⟨1024 + i.val, by omega⟩ l) := by
  unfold k0_pay42
  generalize k0_pay39 v186 v191 v192 v202 v217 = X
  pointwise [k0_pay1]

theorem pay2_at (X : FVec Ideal S2048x128 .f32) : k0_pay2 X (ix3 0 i l) = X (ix2 ⟨1536 + i.val, by omega⟩ l) := by
  pointwise [k0_pay2]

/-- Where an index of the block lies in a piece of 128 lanes. -/
theorem tile_coords (o k : ℕ) (r : Fin 4) (x : (⟨3, ![1, 512, 128]⟩ : Shape).Idx) (ho : o = 128 * k)
    (hx : ∀ a : Fin 3, ((ix3 (n0 := 1) (n1 := 512) (n2 := 512) 0 i ⟨128 * r.val + l.val, by omega⟩) a : ℕ) = (![0, 0, o] : Fin 3 → ℕ) a + (x a : ℕ)) :
    r.val = k ∧ x = ix3 0 i l := by
  have h0 : (x 0).val < 1 := (x 0).isLt
  have h1 : i.val = 0 + (x 1).val := hx 1
  have h2 : 128 * r.val + l.val = o + (x 2).val := hx 2
  have hl : (x 2).val < 128 := (x 2).isLt
  refine ⟨by omega, ?_⟩
  funext a
  fin_cases a
  · exact Fin.ext (show (x 0).val = 0 by omega)
  · exact Fin.ext (show (x 1).val = i.val by omega)
  · exact Fin.ext (show (x 2).val = l.val by omega)

theorem row_congr (X : FVec Ideal S2048x128 .f32) (R R' : Fin 2048) (h : R = R') : X (ix2 R l) = X (ix2 R' l) := by rw [h]

/-- The four pieces hold the rows of the four heads. -/
theorem pieces_at (r : Fin 4) : View.AllAt (Val := Elt Ideal) (e := .f32)
    [⟨Rect.unit (s := S1x512x512) ![0, 0, 384] ![1, 512, 128] inb_S1x512x512_S1x512x128_0_0_384, k0_pay2 (k0_pay39 v186 v191 v192 v202 v217)⟩,
      ⟨Rect.unit (s := S1x512x512) ![0, 0, 256] ![1, 512, 128] inb_S1x512x512_S1x512x128_0_0_256, k0_pay1 (k0_pay42 v186 v191 v192 v202 v217)⟩,
      ⟨Rect.unit (s := S1x512x512) ![0, 0, 128] S1x512x128.size inb_S1x512x512_S1x512x128_0_0_128, k0_pay41 v186 v191 v192 v202 v217⟩,
      ⟨Rect.unit (s := S1x512x512) ![0, 0, 0] S1x512x128.size inb_S1x512x512_S1x512x128_0_0_0, k0_pay40 v186 v191 v192 v202 v217⟩]
    (ix3 0 i ⟨128 * r.val + l.val, by omega⟩) (k0_pay39 v186 v191 v192 v202 v217 (ix2 ⟨512 * r.val + i.val, by omega⟩ l)) := by
  refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _))))
  · obtain ⟨hr, rfl⟩ := tile_coords i l 384 3 r x rfl hx
    exact (pay2_at i l _).trans (row_congr l _ _ _ (Fin.ext (show 1536 + i.val = 512 * r.val + i.val by omega)))
  · obtain ⟨hr, rfl⟩ := tile_coords i l 256 2 r x rfl hx
    exact (pay42_at v186 v191 v192 v202 v217 i l).trans (row_congr l _ _ _ (Fin.ext (show 1024 + i.val = 512 * r.val + i.val by omega)))
  · obtain ⟨hr, rfl⟩ := tile_coords i l 128 1 r x rfl hx
    exact (pay41_at v186 v191 v192 v202 v217 i l).trans (row_congr l _ _ _ (Fin.ext (show 512 + i.val = 512 * r.val + i.val by omega)))
  · obtain ⟨hr, rfl⟩ := tile_coords i l 0 0 r x rfl hx
    exact (pay40_at v186 v191 v192 v202 v217 i l).trans (row_congr l _ _ _ (Fin.ext (show i.val = 512 * r.val + i.val by omega)))

end Pieces

variable (m : (ℓ : Loc nD τ sig) → Buf (Elt Ideal) ℓ) (c : Dev nD)

/-- What grid point `t` leaves in its block. -/
theorem outs_at (t : Fin cfg0.N) (i : Fin 512) (r : Fin 4) (l : Fin 128) :
    outsAt0 m c t (ix3 0 i ⟨128 * r.val + l.val, by omega⟩)
      = attn (A0 m c) (A1 m c) (A2 m c) (A3 m c) (A4 m c) (A5 m c) (A6 m c) (A7 m c) (gb t) (gg t) r ⟨512 * (gn t).val + i.val, by omega⟩ l := by
  unfold outsAt0 out0_A_11
  rw [View.read_writes_apply_eq_canon _ _ _ _ (cover0_A_11 c _ _ _ _ _ _ _ _ _ _ _ _ _ _ _ _ _ _ _ _ _ _ _ _ _ _ _ _ _ _ _ _ _ _ _ _ _ _ _ _ _ _ _ _ _)]
  refine View.canon_eq_of_allAt _ _ _ (cover0_A_11 c _ _ _ _ _ _ _ _ _ _ _ _ _ _ _ _ _ _ _ _ _ _ _ _ _ _ _ _ _ _ _ _ _ _ _ _ _ _ _ _ _ _ _ _ _) ?_
  rw [← rows_out, attRun_val]
  exact pieces_at _ _ _ _ _ i l r

theorem result_of (z : S4x8192x1536.Idx) (b : Fin 4) (g : Fin 3) (r : Fin 4) (t : Fin 8192) (l : Fin 128)
    (h0 : (z 0).val = b.val) (h1 : (z 1).val = t.val) (h2 : (z 2).val = 512 * g.val + (128 * r.val + l.val)) :
    result m c z = attn (A0 m c) (A1 m c) (A2 m c) (A3 m c) (A4 m c) (A5 m c) (A6 m c) (A7 m c) b g r t l := by
  unfold result
  have q0 : z 0 = b := Fin.ext h0
  have q1 : z 1 = t := Fin.ext h1
  have q2 : (⟨(z 2).val / 512, by have : (z 2).val < 1536 := (z 2).isLt; omega⟩ : Fin 3) = g := Fin.ext (by show (z 2).val / 512 = g.val; omega)
  have q3 : (⟨(z 2).val / 128 % 4, by omega⟩ : Fin 4) = r := Fin.ext (by show (z 2).val / 128 % 4 = r.val; omega)
  have q4 : (⟨(z 2).val % 128, by omega⟩ : Fin 128) = l := Fin.ext (by show (z 2).val % 128 = l.val; omega)
  rw [q0, q1, q2, q3, q4]

theorem blk_out (t : Fin cfg0.N) (y : S1x512x512.Idx) : outsAt0 m c t y = result m c ((win0_11.blk t).view.emb y) := by
  have h := (places t).2.2.2.2.2.2.2.2.2.2.2
  have y0 : (y 0).val < 1 := (y 0).isLt
  have y1 : (y 1).val < 512 := (y 1).isLt
  have y2 : (y 2).val < 512 := (y 2).isLt
  have p0 : ((win0_11.blk t).view.emb y 0).val = (gb t).val := by blk_simp [h]
  have p1 : ((win0_11.blk t).view.emb y 1).val = 512 * (gn t).val + (y 1).val := by blk_simp [h]; omega
  have p2 : ((win0_11.blk t).view.emb y 2).val = 512 * (gg t).val + (y 2).val := by blk_simp [h]; omega
  have e := outs_at m c t ⟨(y 1).val, y1⟩ ⟨(y 2).val / 128, by omega⟩ ⟨(y 2).val % 128, by omega⟩
  have hy : y = ix3 (n0 := 1) (n1 := 512) (n2 := 512) 0 ⟨(y 1).val, y1⟩ ⟨128 * ((y 2).val / 128) + (y 2).val % 128, by omega⟩ := by
    funext a
    fin_cases a
    · exact Fin.ext (show (y 0).val = 0 by omega)
    · rfl
    · exact Fin.ext (show (y 2).val = 128 * ((y 2).val / 128) + (y 2).val % 128 by omega)
  refine (congrArg (outsAt0 m c t) hy).trans (e.trans ?_)
  exact (result_of m c _ _ _ _ _ _ p0 p1 (by rw [p2]; simp only; omega)).symm

/-- The array of the result after the run. -/
theorem arr_eq : (dats m 0 c).arrAt 11 cfg0.N = result m c := by
  refine (dats m 0 c).arrAt_eq_of_covers 11 _ (by decide +kernel) fun t hf y => ?_
  blk_simp
  rw [after0_11]
  exact blk_out m c t y

end Cert.KernelIdeal.Att
-- ==== Proof.AttRef.lean ====
module

public import proofs.«01_k».proof.Proof.Gen.ReferenceIdeal.Read
public import proofs.«01_k».proof.Proof.AttArr
public import Idealize.ShloMosaic.Lib.Pointwise
public import Idealize.ShloMosaic.Lib.Tactic.CleanTypes

/-! The reference's stages read at an index, and its result as gated attention over whole rows. -/

@[expose] public section

set_option maxRecDepth 16384

noncomputable section

namespace Cert.ReferenceIdeal.Att

open Idealize.ShloMosaic Idealize.ShloMosaic.TcCoe
open Cert.ReferenceIdeal Cert.ReferenceIdeal.Gen Cert.ReferenceIdeal.Read Cert.Softmax
open Cert.KernelIdeal.Att (toInt_word ofBits_neg_inf)

/-! ### Words -/

/-- A select on two one-bit words. -/
theorem select_and {α : Type} (c d : BitVec 1) (u v : α) : Scalar.select (IntOp.andi c d) u v = Scalar.select c (Scalar.select d u v) v := by
  unfold Scalar.select IntOp.andi
  revert c d
  have h0 : ∀ c d : BitVec 1, (c &&& d = 1 ↔ c = 1 ∧ d = 1) := by decide
  intro c d
  by_cases hc : c = 1
  · by_cases hd : d = 1
    · rw [if_pos ((h0 c d).mpr ⟨hc, hd⟩), if_pos hc, if_pos hd]
    · rw [if_neg fun h => hd ((h0 c d).mp h).2, if_pos hc, if_neg hd]
  · rw [if_neg fun h => hc ((h0 c d).mp h).1, if_neg hc]

/-- A select on a signed comparison of two small words. -/
theorem select_sle {α : Type} {a b : ℕ} (ha : a < 8192) (hb : b < 8192) (u v : α) :
    Scalar.select (IntOp.cmpi CmpIPredicate.sle (BitVec.ofNat 32 a) (BitVec.ofNat 32 b)) u v = if a ≤ b then u else v := by
  have h1 := toInt_word ha
  have h2 := toInt_word hb
  unfold Scalar.select IntOp.cmpi
  by_cases h : a ≤ b
  · simp [BitVec.sle, h1, h2, h]
  · simp [BitVec.sle, h1, h2, h]

/-- The word `t - 512` read as an integer. -/
theorem toInt_sub {t : ℕ} (ht : t < 8192) : (IntOp.subi (BitVec.ofNat 32 t) 512#32).toInt = (t : ℤ) - 512 := by
  show (BitVec.ofNat 32 t - 512#32).toInt = _
  rw [BitVec.toInt_sub, toInt_word ht]
  have : (512#32 : BitVec 32).toInt = 512 := by decide
  rw [this]
  apply Int.bmod_eq_of_le <;> omega

/-- A select on the window's left edge. -/
theorem select_window {α : Type} {j t : ℕ} (hj : j < 8192) (ht : t < 8192) (u v : α) :
    Scalar.select (IntOp.cmpi CmpIPredicate.sgt (BitVec.ofNat 32 j) (IntOp.subi (BitVec.ofNat 32 t) 512#32)) u v = if t < j + 512 then u else v := by
  have h1 := toInt_word hj
  have h2 := toInt_sub ht
  unfold Scalar.select IntOp.cmpi
  by_cases h : t < j + 512
  · have h' : ((t : ℤ) - 512 < j) := by omega
    simp [BitVec.slt, h1, h2, h, h']
  · have h' : ¬ ((t : ℤ) - 512 < j) := by omega
    simp [BitVec.slt, h1, h2, h, h']

/-- The mask of the selected branch. -/
theorem mask_chosen {α : Type} (x : BitVec 32) {j t : ℕ} (hj : j < 8192) (ht : t < 8192) (u v : α) :
    Scalar.select (IntOp.andi (IntOp.cmpi CmpIPredicate.ne x 0#32) (IntOp.cmpi CmpIPredicate.sle (BitVec.ofNat 32 j) (BitVec.ofNat 32 t))) u v
      = if x ≠ 0#32 ∧ j ≤ t then u else v := by
  rw [select_and, select_sle hj ht, Cert.KernelIdeal.Att.select_ne]
  by_cases h : x ≠ 0#32
  · by_cases h' : j ≤ t
    · rw [if_pos h, if_pos h', if_pos ⟨h, h'⟩]
    · rw [if_pos h, if_neg h', if_neg fun e => h' e.2]
  · rw [if_neg h, if_neg fun e => h e.1]

/-- The mask of the window branch. -/
theorem mask_window {α : Type} {j t : ℕ} (hj : j < 8192) (ht : t < 8192) (u v : α) :
    Scalar.select (IntOp.andi (IntOp.cmpi CmpIPredicate.sle (BitVec.ofNat 32 j) (BitVec.ofNat 32 t)) (IntOp.cmpi CmpIPredicate.sgt (BitVec.ofNat 32 j) (IntOp.subi (BitVec.ofNat 32 t) 512#32))) u v
      = if j ≤ t ∧ t < j + 512 then u else v := by
  rw [select_and, select_sle hj ht, select_window hj ht]
  by_cases h : j ≤ t
  · by_cases h' : t < j + 512
    · rw [if_pos h, if_pos h', if_pos ⟨h, h'⟩]
    · rw [if_pos h, if_neg h', if_neg fun e => h' e.2]
  · rw [if_neg h, if_neg fun e => h e.1]

/-! ### Constants -/

/-- The word of the scale. -/
theorem ofBits_scale : Ideal.ofBits .f32 0x3DB504F3#32 = (scaleR : EReal) := by
  show Ideal.ieee 8 23 (0x3DB504F3#32) = _
  unfold Ideal.ieee
  simp only []
  rw [if_neg (by decide), if_neg (by decide), if_neg (by decide)]
  have e1 : (BitVec.extractLsb' 23 8 (0x3DB504F3#32)).toNat = 123 := by decide
  have e2 : (BitVec.extractLsb' 0 23 (0x3DB504F3#32)).toNat = 3474675 := by decide
  rw [e1, e2]
  refine congrArg (fun r : ℝ => (r : EReal)) ?_
  norm_num

theorem ofBits_zero : Ideal.ofBits .f32 0x00000000#32 = (0 : EReal) := by
  show Ideal.ieee 8 23 (0x00000000#32) = _
  unfold Ideal.ieee
  simp

/-- The plain form's shift as a select on a comparison. -/
theorem select_gt_bot (M : EReal) :
    Scalar.select (FloatOps.cmpf (F := Ideal) (φ := .f32) .ogt M (FloatOps.ofBits .f32 0xFF800000#32)) M (FloatOps.ofBits (F := Ideal) .f32 0x00000000#32 : EReal) = refShift M := by
  have e : FloatOps.cmpf (F := Ideal) (φ := .f32) .ogt M (FloatOps.ofBits .f32 0xFF800000#32) = Ideal.cmp .ogt M (Ideal.ofBits .f32 0xFF800000#32) := rfl
  have z : (FloatOps.ofBits (F := Ideal) .f32 0x00000000#32 : EReal) = 0 := ofBits_zero
  rw [e, z, ofBits_neg_inf]
  unfold refShift Scalar.select Ideal.cmp
  by_cases h : ⊥ < M
  · simp [h]
  · simp [h]

/-! ### The rows' maxima and the sums over the keys -/

/-- A maximum over all keys, from minus infinity. -/
theorem fold_top (f : Fin 8192 → EReal) (S : ℕ → EReal) (h : ∀ j : Fin 8192, f j = S j.val) :
    Finset.univ.fold max (Ideal.ofBits .f32 0xFF800000#32) f = top S 8192 := by
  have := top_add S 0 8192 f fun j => by rw [h j, Nat.zero_add]
  rw [top_zero, max_eq_right bot_le, Nat.zero_add] at this
  rw [ofBits_neg_inf, this]

variable (x0 : FVec Ideal S4x8192x12x128 .f32) (x1 x2 x3 x4 : FVec Ideal S4x8192x3x128 .f32) (x5 : IVec S4x3x8192x128 32) (x6 : FVec Ideal S4x12x8192x128 .f32) (x7 : FVec Ideal S4x8192x36 .f32)
variable (b : Fin 4) (g : Fin 3) (r : Fin 4) (t : Fin 8192)

/-- The maximum over a row of scores. -/
theorem rowmax (X : FVec Ideal S4x3x4x8192x8192 .f32) :
    Host.reduce FloatOps.maximumf X (constant S_ .f32 0xFF800000#32) reducesTo_S4x3x4x8192x8192_S4x3x4x8192_d4 h_S_ (ix4 b g r t)
      = Finset.univ.fold max (Ideal.ofBits .f32 0xFF800000#32) fun k : Fin 8192 => X (ix5 b g r t k) := by
  pointwise

/-- Which keys of the selected branch a row sees. -/
abbrev seen (j : ℕ) : Prop := x5 (ix4 b g t ⟨j / 64 % 128, Nat.mod_lt _ (by norm_num)⟩) ≠ 0#32 ∧ j ≤ t.val
/-- Which keys of the window branch a row sees. -/
abbrev near (j : ℕ) : Prop := j ≤ t.val ∧ t.val < j + 512
/-- A row's scores. -/
abbrev score (k : FVec Ideal S4x8192x3x128 .f32) (j : ℕ) : EReal :=
  (∑ d : Fin 128, x0 (ix4 b t ⟨4 * g.val + r.val, by omega⟩ d) * col k b g j d) * (scaleR : EReal)

theorem head_eq : (⟨g.val * 4 + r.val, by omega⟩ : Fin 12) = ⟨4 * g.val + r.val, by omega⟩ := by
  ext; simp only; omega

/-! ### The selected branch -/

/-- The masked scores. -/
theorem v16_at (j : Fin 8192) :
    val_main_v16 (F := Ideal) x0 x1 x5 (ix5 b g r t j) = refScore (seen x5 b g t) (score x0 b g r t x1) j.val := by
  have hj : (⟨j.val / 64, by omega⟩ : Fin 128) = ⟨j.val / 64 % 128, Nat.mod_lt _ (by norm_num)⟩ := by ext; simp only; omega
  pointwise [val_main_v16, val_main_call0_v1, val_main_v15, val_main_call0_v2, val_main_call0_v0, val_main_cst_0, val_main_v13, val_main_v14, val_main_cst, val_main_v1, val_main_v0, val_main_v12, val_main_v11, val_main_v10, val_main_v9, val_main_v8, val_main_v7, val_main_v6, val_main_v5, val_main_v4, val_main_v3, val_main_v2, val_main_c]
  first | rw [mask_chosen _ j.isLt t.isLt] | rw [mask_chosen j.isLt t.isLt]
  rw [ofBits_scale]
  unfold refScore
  refine if_congr (by first | rw [hj] | rfl) ?_ ofBits_neg_inf
  refine congrArg (· * (scaleR : EReal)) (Finset.sum_congr rfl fun d _ => ?_)
  exact congrArg₂ (· * ·) (congrArg (fun h => x0 (ix4 b t h d)) (head_eq g r)) (col_of_lt _ _ _ _ j.isLt d).symm

/-- A row's maximum. -/
theorem v17_at : val_main_v17 (F := Ideal) x0 x1 x5 (ix4 b g r t) = top (refScore (seen x5 b g t) (score x0 b g r t x1)) 8192 := by
  have h : ∀ j : Fin 8192, val_main_v16 (F := Ideal) x0 x1 x5 (ix5 b g r t j) = refScore (seen x5 b g t) (score x0 b g r t x1) j.val := v16_at x0 x1 x5 b g r t
  revert h
  unfold val_main_v17
  generalize val_main_v16 (F := Ideal) x0 x1 x5 = X
  intro h
  clean_types
  exact (rowmax b g r t X).trans (fold_top _ _ h)

/-- The shift of a row. -/
theorem v21_at : val_main_v21 (F := Ideal) x0 x1 x5 (ix5 b g r t 0) = refShift (top (refScore (seen x5 b g t) (score x0 b g r t x1)) 8192) := by
  have h : val_main_v17 (F := Ideal) x0 x1 x5 (ix4 b g r t) = top (refScore (seen x5 b g t) (score x0 b g r t x1)) 8192 := v17_at x0 x1 x5 b g r t
  have e : idx_main_v18 (ix5 b g r t 0) = ix4 b g r t := by
    funext a
    match a with
    | ⟨0, _⟩ => rfl
    | ⟨1, _⟩ => rfl
    | ⟨2, _⟩ => rfl
    | ⟨3, _⟩ => rfl
  rw [val_main_v21_apply, val_main_v20_apply, val_main_v18_apply, val_main_v19_apply, val_main_cst_2_apply, val_main_call1_v1_apply, val_main_call1_v0_apply, val_main_cst_3_apply]
  rw [e, h]
  exact select_gt_bot _

/-- The weights. -/
theorem v25_at (j : Fin 8192) :
    val_main_v25 (F := Ideal) x0 x1 x5 (ix5 b g r t j) = weight (seen x5 b g t) (score x0 b g r t x1) j.val := by
  have hj : (⟨j.val / 64, by omega⟩ : Fin 128) = ⟨j.val / 64 % 128, Nat.mod_lt _ (by norm_num)⟩ := by ext; simp only; omega
  have h1 := v16_at x0 x1 x5 b g r t j
  have h2 := v21_at x0 x1 x5 b g r t
  revert h1 h2
  unfold val_main_v25 val_main_v24 val_main_v23 val_main_v22
  generalize val_main_v16 (F := Ideal) x0 x1 x5 = X
  generalize val_main_v21 (F := Ideal) x0 x1 x5 = Y
  intro h1 h2
  pointwise [val_main_call2_v1, val_main_call2_v2, val_main_call2_v0, val_main_cst_4, val_main_v12, val_main_v11, val_main_v10, val_main_v9, val_main_v8, val_main_v7, val_main_v6, val_main_v5, val_main_v4, val_main_v3, val_main_v2, val_main_c]
  first | rw [mask_chosen _ j.isLt t.isLt] | rw [mask_chosen j.isLt t.isLt]
  rw [h1, h2]
  unfold weight
  exact if_congr (by first | rw [hj] | rfl) rfl ofBits_zero

/-- The branch's output. -/
theorem v32_at (l : Fin 128) :
    val_main_v32 (F := Ideal) x0 x1 x2 x5 (ix5 b g r t l) = refOut (seen x5 b g t) (score x0 b g r t x1) (fun j => col x2 b g j l) := by
  have h := fun j => v25_at x0 x1 x5 b g r t j
  revert h
  unfold val_main_v32 val_main_v31 val_main_v30 val_main_v29 val_main_v27 val_main_v26
  generalize val_main_v25 (F := Ideal) x0 x1 x5 = X
  intro h
  pointwise [val_main_v28, val_main_cst_6, val_main_cst_5]
  unfold refOut
  rw [Finset.sum_range]
  have hs : ∑ x : Fin 8192, X (ix5 b g r t x) = ∑ i ∈ Finset.range 8192, weight (seen x5 b g t) (score x0 b g r t x1) i := by
    rw [Finset.sum_range]
    exact Finset.sum_congr rfl fun j _ => h j
  rw [hs]
  refine Finset.sum_congr rfl fun j _ => ?_
  rw [h j]
  exact congrArg (_ * ·) (col_of_lt _ _ _ _ j.isLt l).symm

/-! ### The window branch -/

/-- The masked scores. -/
theorem v41_at (j : Fin 8192) :
    val_main_v41 (F := Ideal) x0 x3 (ix5 b g r t j) = refScore (near t) (score x0 b g r t x3) j.val := by
  have hj : (⟨j.val / 64, by omega⟩ : Fin 128) = ⟨j.val / 64 % 128, Nat.mod_lt _ (by norm_num)⟩ := by ext; simp only; omega
  pointwise [val_main_v41, val_main_call3_v1, val_main_v40, val_main_call3_v2, val_main_call3_v0, val_main_cst_9, val_main_v38, val_main_v39, val_main_cst_8, val_main_v1, val_main_v0, val_main_v37, val_main_v36, val_main_v35, val_main_v34, val_main_v33, val_main_v3, val_main_v2, val_main_c_7]
  first | rw [mask_window _ j.isLt t.isLt] | rw [mask_window j.isLt t.isLt]
  rw [ofBits_scale]
  unfold refScore
  refine if_congr (by first | rw [hj] | rfl) ?_ ofBits_neg_inf
  refine congrArg (· * (scaleR : EReal)) (Finset.sum_congr rfl fun d _ => ?_)
  exact congrArg₂ (· * ·) (congrArg (fun h => x0 (ix4 b t h d)) (head_eq g r)) (col_of_lt _ _ _ _ j.isLt d).symm

/-- A row's maximum. -/
theorem v42_at : val_main_v42 (F := Ideal) x0 x3 (ix4 b g r t) = top (refScore (near t) (score x0 b g r t x3)) 8192 := by
  have h : ∀ j : Fin 8192, val_main_v41 (F := Ideal) x0 x3 (ix5 b g r t j) = refScore (near t) (score x0 b g r t x3) j.val := v41_at x0 x3 b g r t
  revert h
  unfold val_main_v42
  generalize val_main_v41 (F := Ideal) x0 x3 = X
  intro h
  clean_types
  exact (rowmax b g r t X).trans (fold_top _ _ h)

/-- The shift of a row. -/
theorem v46_at : val_main_v46 (F := Ideal) x0 x3 (ix5 b g r t 0) = refShift (top (refScore (near t) (score x0 b g r t x3)) 8192) := by
  have h : val_main_v42 (F := Ideal) x0 x3 (ix4 b g r t) = top (refScore (near t) (score x0 b g r t x3)) 8192 := v42_at x0 x3 b g r t
  have e : idx_main_v43 (ix5 b g r t 0) = ix4 b g r t := by
    funext a
    match a with
    | ⟨0, _⟩ => rfl
    | ⟨1, _⟩ => rfl
    | ⟨2, _⟩ => rfl
    | ⟨3, _⟩ => rfl
  rw [val_main_v46_apply, val_main_v45_apply, val_main_v43_apply, val_main_v44_apply, val_main_cst_11_apply, val_main_call4_v1_apply, val_main_call4_v0_apply, val_main_cst_12_apply]
  rw [e, h]
  exact select_gt_bot _

/-- The weights. -/
theorem v50_at (j : Fin 8192) :
    val_main_v50 (F := Ideal) x0 x3 (ix5 b g r t j) = weight (near t) (score x0 b g r t x3) j.val := by
  have hj : (⟨j.val / 64, by omega⟩ : Fin 128) = ⟨j.val / 64 % 128, Nat.mod_lt _ (by norm_num)⟩ := by ext; simp only; omega
  have h1 := v41_at x0 x3 b g r t j
  have h2 := v46_at x0 x3 b g r t
  revert h1 h2
  unfold val_main_v50 val_main_v49 val_main_v48 val_main_v47
  generalize val_main_v41 (F := Ideal) x0 x3 = X
  generalize val_main_v46 (F := Ideal) x0 x3 = Y
  intro h1 h2
  pointwise [val_main_call5_v1, val_main_call5_v2, val_main_call5_v0, val_main_cst_13, val_main_v37, val_main_v36, val_main_v35, val_main_v34, val_main_v33, val_main_v3, val_main_v2, val_main_c_7]
  first | rw [mask_window _ j.isLt t.isLt] | rw [mask_window j.isLt t.isLt]
  rw [h1, h2]
  unfold weight
  exact if_congr (by first | rw [hj] | rfl) rfl ofBits_zero

/-- The branch's output. -/
theorem v57_at (l : Fin 128) :
    val_main_v57 (F := Ideal) x0 x3 x4 (ix5 b g r t l) = refOut (near t) (score x0 b g r t x3) (fun j => col x4 b g j l) := by
  have h := fun j => v50_at x0 x3 b g r t j
  revert h
  unfold val_main_v57 val_main_v56 val_main_v55 val_main_v54 val_main_v52 val_main_v51
  generalize val_main_v50 (F := Ideal) x0 x3 = X
  intro h
  pointwise [val_main_v53, val_main_cst_15, val_main_cst_14]
  unfold refOut
  rw [Finset.sum_range]
  have hs : ∑ x : Fin 8192, X (ix5 b g r t x) = ∑ i ∈ Finset.range 8192, weight (near t) (score x0 b g r t x3) i := by
    rw [Finset.sum_range]
    exact Finset.sum_congr rfl fun j _ => h j
  rw [hs]
  refine Finset.sum_congr rfl fun j _ => ?_
  rw [h j]
  exact congrArg (_ * ·) (col_of_lt _ _ _ _ j.isLt l).symm

/-! ### The result -/

/-- The reference's result is gated attention. -/
theorem v79_at (l : Fin 128) :
    val_main_v79 (F := Ideal) x0 x1 x2 x3 x4 x5 x6 x7 (ix3 b t ⟨512 * g.val + 128 * r.val + l.val, by omega⟩)
      = attn x0 x1 x2 x3 x4 x5 x6 x7 b g r t l := by
  have h1 := v32_at x0 x1 x2 x5 b g r t l
  have h2 := v57_at x0 x3 x4 b g r t l
  have e0 : (⟨g.val * 12 + r.val * 3, by omega⟩ : Fin 36) = ⟨12 * g.val + 3 * r.val, by omega⟩ := by ext; simp only; omega
  have e1 : (⟨g.val * 12 + r.val * 3 + 1, by omega⟩ : Fin 36) = ⟨12 * g.val + (3 * r.val + 1), by omega⟩ := by ext; simp only; omega
  have e2 : (⟨g.val * 12 + r.val * 3 + 2, by omega⟩ : Fin 36) = ⟨12 * g.val + (3 * r.val + 2), by omega⟩ := by ext; simp only; omega
  revert h1 h2
  unfold val_main_v79 val_main_v78 val_main_v77 val_main_v73 val_main_v76 val_main_v72
  generalize val_main_v32 (F := Ideal) x0 x1 x2 x5 = X
  generalize val_main_v57 (F := Ideal) x0 x3 x4 = Y
  intro h1 h2
  pointwise [val_main_v69, val_main_v68, val_main_v67, val_main_v66, val_main_v65, val_main_v64, val_main_v63, val_main_v62, val_main_v61, val_main_v60, val_main_v59, val_main_v58, val_main_cst_16, val_main_cst_17, val_main_v70, val_main_v71, val_main_v74, val_main_v75]
  rw [h1, h2, head_eq]
  rw [e0, e1, e2]
  rfl

/-- The reference's result at every index. -/
theorem v79_all (z : S4x8192x1536.Idx) :
    val_main_v79 (F := Ideal) x0 x1 x2 x3 x4 x5 x6 x7 z
      = attn x0 x1 x2 x3 x4 x5 x6 x7 (z 0) ⟨(z 2).val / 512, by have : (z 2).val < 1536 := (z 2).isLt; omega⟩ ⟨(z 2).val / 128 % 4, by omega⟩ (z 1) ⟨(z 2).val % 128, by omega⟩ := by
  have h2 : (z 2).val < 1536 := (z 2).isLt
  have e : z = ix3 (z 0) (z 1) ⟨512 * ((z 2).val / 512) + 128 * ((z 2).val / 128 % 4) + (z 2).val % 128, by omega⟩ := by
    funext a
    match a with
    | ⟨0, _⟩ => rfl
    | ⟨1, _⟩ => rfl
    | ⟨2, _⟩ => exact Fin.ext (show (z 2).val = 512 * ((z 2).val / 512) + 128 * ((z 2).val / 128 % 4) + (z 2).val % 128 by omega)
  exact (congrArg (val_main_v79 (F := Ideal) x0 x1 x2 x3 x4 x5 x6 x7) e).trans
    (v79_at x0 x1 x2 x3 x4 x5 x6 x7 (z 0) ⟨(z 2).val / 512, by omega⟩ ⟨(z 2).val / 128 % 4, by omega⟩ (z 1) ⟨(z 2).val % 128, by omega⟩)

end Cert.ReferenceIdeal.Att
-- ==== Proof.FfnPay2.lean ====
module

public import proofs.«01_k».proof.Proof.Gen.Kernel2Ideal.Value
public import Idealize.ShloMosaic.Lib.Pipeline.ValueKit.Acc
public import Idealize.ShloMosaic.Lib.Pipeline.ValueKit.Point
public import Idealize.ShloMosaic.Lib.Pipeline.ReadBack
public import Idealize.ShloMosaic.Lib.Pointwise

/-! What the cases of the idealized feed-forward call leave in the output's buffer, as the payloads of its stores. -/

@[expose] public section

set_option maxRecDepth 16384

noncomputable section

namespace Cert.Kernel2Ideal.Ffn

open Idealize.ShloMosaic Idealize.ShloMosaic.TcCoe
open Cert.Kernel2Ideal Cert.Kernel2Ideal.Gen

variable (m : (ℓ : Loc nD τ sig) → Buf (Elt Ideal) ℓ) (c : Dev nD)

/-- What a first slab's grid point leaves. -/
theorem outs_A (t : Fin cfg0.N) (h : t.val % 11 = 0) :
    outsAt0 m c t.val t.isLt = (k0_pay2 (k0_pay1 (iblk m c 0 t) (iblk m c 1 t)) (X0_2 m c t) (X0_3 m c t) (iblk m c 0 t) (X0_4 m c t),
      k0_pay1 (iblk m c 0 t) (iblk m c 1 t)) := by
  rw [outsAt0_A m c t h h (by omega) (by omega) (by omega)]
  refine Prod.ext ?_ ?_
  · dsimp only
    frame_out
  · dsimp only
    frame_out

/-- What a middle slab's grid point leaves. -/
theorem outs_B (t : Fin cfg0.N) (h : 1 ≤ t.val % 11 ∧ t.val % 11 ≤ 9) :
    outsAt0 m c t.val t.isLt =
      (k0_pay3 (outsAt0 m c (t.val - 1) (Nat.lt_of_le_of_lt (Nat.sub_le _ _) t.isLt)).2 (X0_2 m c t) (X0_3 m c t)
        (outsAt0 m c (t.val - 1) (Nat.lt_of_le_of_lt (Nat.sub_le _ _) t.isLt)).1 (X0_4 m c t),
      (outsAt0 m c (t.val - 1) (Nat.lt_of_le_of_lt (Nat.sub_le _ _) t.isLt)).2) := by
  rw [outsAt0_B m c t (by omega) (by omega) h (by omega) (by omega)]
  generalize outsAt0 m c (t.val - 1) (Nat.lt_of_le_of_lt (Nat.sub_le _ _) t.isLt) = o
  refine Prod.ext ?_ ?_
  · dsimp only
    frame_out
    exact congrArg (fun z => k0_pay3 z (X0_2 m c t) (X0_3 m c t) o.1 (X0_4 m c t)) (read_unread_whole cc0_scratch0 _ o.2)
  · rfl

/-- What a last slab's grid point leaves. -/
theorem outs_C (t : Fin cfg0.N) (h : t.val % 11 = 10) :
    (outsAt0 m c t.val t.isLt).1 =
      k0_pay5 (k0_pay4 (outsAt0 m c (t.val - 1) (Nat.lt_of_le_of_lt (Nat.sub_le _ _) t.isLt)).2 (iblk m c 5 t) (iblk m c 6 t)
        (outsAt0 m c (t.val - 1) (Nat.lt_of_le_of_lt (Nat.sub_le _ _) t.isLt)).1 (iblk m c 7 t)) (iblk m c 8 t) := by
  rw [outsAt0_C m c t (by omega) (by omega) (by omega) h h]
  generalize outsAt0 m c (t.val - 1) (Nat.lt_of_le_of_lt (Nat.sub_le _ _) t.isLt) = o
  dsimp only
  frame_out
  exact congrArg (fun z => k0_pay5 (k0_pay4 z (iblk m c 5 t) (iblk m c 6 t) o.1 (iblk m c 7 t)) (iblk m c 8 t)) (read_unread_whole cc0_scratch0 _ o.2)

end Cert.Kernel2Ideal.Ffn
-- ==== Proof.FfnMath.lean ====
module

public import Idealize.ShloMosaic.PureOps.Ideal.Laws

/-! The gated feed-forward on one row over the extended reals, and its sum taken slab by slab. -/

@[expose] public section

noncomputable section

namespace Cert.Ffn

open Idealize.ShloMosaic

/-- The factor of the half step. -/
abbrev half : EReal := Ideal.ofBits .f32 0x3F000000#32
/-- The number of features. -/
abbrev width : EReal := Ideal.ofBits .f32 0x45000000#32
/-- The norm's small addend. -/
abbrev eps : EReal := Ideal.ofBits .f32 0x358637BD#32

/-- The root-mean-square norm of a row, times its gains. -/
def norm (x g : Fin 2048 → EReal) (k : Fin 2048) : EReal :=
  x k * Ideal.rsqrt (Ideal.div (∑ j, x j * x j) width + eps) * g k

/-- A hidden feature: the gate's silu times the up projection. -/
def gated {n : ℕ} (h : Fin 2048 → EReal) (wg wu : Fin 2048 → Fin n → EReal) (f : Fin n) : EReal :=
  ((∑ k, h k * wg k f) * Ideal.logistic (∑ k, h k * wg k f)) * ∑ k, h k * wu k f

/-- The contribution of hidden feature `f` to output feature `k`, zero past the last. -/
def term (h : Fin 2048 → EReal) (wg wu : Fin 2048 → Fin 5504 → EReal) (wd : Fin 5504 → Fin 2048 → EReal) (k : Fin 2048) (f : ℕ) : EReal :=
  if hf : f < 5504 then gated h wg wu ⟨f, hf⟩ * wd ⟨f, hf⟩ k else 0

/-- The half-step feed-forward over the first `n` hidden features. -/
def upTo (x g : Fin 2048 → EReal) (wg wu : Fin 2048 → Fin 5504 → EReal) (wd : Fin 5504 → Fin 2048 → EReal) (n : ℕ) (k : Fin 2048) : EReal :=
  x k + half * ∑ f ∈ Finset.range n, term (norm x g) wg wu wd k f

/-- The half-step feed-forward of a row. -/
def ffn (x g : Fin 2048 → EReal) (wg wu : Fin 2048 → Fin 5504 → EReal) (wd : Fin 5504 → Fin 2048 → EReal) (k : Fin 2048) : EReal :=
  x k + half * ∑ f : Fin 5504, gated (norm x g) wg wu f * wd f k

theorem half_eq : half = ((1 / 2 : ℝ) : EReal) := by
  show Ideal.ieee 8 23 (0x3F000000#32) = _
  unfold Ideal.ieee
  simp only []
  rw [if_neg (by decide), if_neg (by decide), if_neg (by decide)]
  have e1 : (BitVec.extractLsb' 23 8 (0x3F000000#32)).toNat = 126 := by decide
  have e2 : (BitVec.extractLsb' 0 23 (0x3F000000#32)).toNat = 0 := by decide
  rw [e1, e2]
  refine congrArg (fun r : ℝ => (r : EReal)) ?_
  norm_num

theorem half_nonneg : 0 ≤ half := by
  rw [half_eq]
  exact EReal.coe_nonneg.mpr (by norm_num)

theorem half_ne_top : half ≠ ⊤ := by
  rw [half_eq]
  exact EReal.coe_ne_top _

/-- A further slab of hidden features, added with its own half factor. -/
theorem slab {d : ℕ} (a : EReal) (Z : ℕ → EReal) (n : ℕ) (z : Fin d → EReal) (h : ∀ f : Fin d, z f = Z (n + f.val)) :
    (a + half * ∑ f ∈ Finset.range n, Z f) + half * ∑ f : Fin d, z f = a + half * ∑ f ∈ Finset.range (n + d), Z f := by
  rw [Finset.sum_range_add, EReal.left_distrib_of_nonneg_of_ne_top half_nonneg half_ne_top, ← add_assoc,
    Finset.sum_range (fun x => Z (n + x))]
  exact congrArg (fun s => a + half * (∑ f ∈ Finset.range n, Z f) + half * s) (Finset.sum_congr rfl fun f _ => h f)

/-- The first slab of hidden features. -/
theorem slab_first {d : ℕ} (a : EReal) (Z : ℕ → EReal) (z : Fin d → EReal) (h : ∀ f : Fin d, z f = Z f.val) :
    a + half * ∑ f : Fin d, z f = a + half * ∑ f ∈ Finset.range d, Z f := by
  rw [Finset.sum_range Z]
  exact congrArg (fun s => a + half * s) (Finset.sum_congr rfl fun f _ => h f)

/-- All hidden features. -/
theorem upTo_all (x g : Fin 2048 → EReal) (wg wu : Fin 2048 → Fin 5504 → EReal) (wd : Fin 5504 → Fin 2048 → EReal) (k : Fin 2048) :
    upTo x g wg wu wd 5504 k = ffn x g wg wu wd k := by
  unfold upTo ffn
  rw [Finset.sum_range]
  refine congrArg (fun s => x k + half * s) (Finset.sum_congr rfl fun f _ => ?_)
  unfold term
  rw [dif_pos f.isLt]

end Cert.Ffn
-- ==== Proof.FfnRow2.lean ====
module

public import proofs.«01_k».proof.Proof.Gen.Kernel2Ideal.Skeleton
public import proofs.«01_k».proof.Proof.FfnMath
public import Idealize.ShloMosaic.Lib.Pointwise

/-! The payloads of the idealized feed-forward call, read at an index. -/

@[expose] public section

set_option maxRecDepth 16384

noncomputable section

namespace Cert.Kernel2Ideal.Ffn

open Idealize.ShloMosaic Idealize.ShloMosaic.TcCoe
open Cert.Kernel2Ideal Cert.Kernel2Ideal.Gen Cert.Ffn

theorem pay1_at (x : Vec Ideal S512x2048 .f32) (g : Vec Ideal S1x2048 .f32) (i : Fin 512) (k : Fin 2048) :
    k0_pay1 x g (ix2 i k) = norm (fun j => x (ix2 i j)) (fun j => g (ix2 0 j)) k := by
  pointwise [k0_pay1]
  rfl

theorem pay2_at (h : Vec Ideal S512x2048 .bf16) (wg wu : Vec Ideal S2048x512 .bf16) (x : Vec Ideal S512x2048 .f32) (wd : Vec Ideal S512x2048 .bf16) (i : Fin 512) (k : Fin 2048) :
    k0_pay2 h wg wu x wd (ix2 i k) = x (ix2 i k) + half * ∑ f : Fin 512, gated (fun j => h (ix2 i j)) (fun j f => wg (ix2 j f)) (fun j f => wu (ix2 j f)) f * wd (ix2 f k) := by
  pointwise [k0_pay2]
  rfl

theorem pay3_at (h : Vec Ideal S512x2048 .bf16) (wg wu : Vec Ideal S2048x512 .bf16) (x : Vec Ideal S512x2048 .f32) (wd : Vec Ideal S512x2048 .bf16) (i : Fin 512) (k : Fin 2048) :
    k0_pay3 h wg wu x wd (ix2 i k) = x (ix2 i k) + half * ∑ f : Fin 512, gated (fun j => h (ix2 i j)) (fun j f => wg (ix2 j f)) (fun j f => wu (ix2 j f)) f * wd (ix2 f k) := by
  pointwise [k0_pay3]
  rfl

theorem pay4_at (h : Vec Ideal S512x2048 .bf16) (wg wu : Vec Ideal S2048x384 .bf16) (x : Vec Ideal S512x2048 .f32) (wd : Vec Ideal S384x2048 .bf16) (i : Fin 512) (k : Fin 2048) :
    k0_pay4 h wg wu x wd (ix2 i k) = x (ix2 i k) + half * ∑ f : Fin 384, gated (fun j => h (ix2 i j)) (fun j f => wg (ix2 j f)) (fun j f => wu (ix2 j f)) f * wd (ix2 f k) := by
  pointwise [k0_pay4]
  rfl

theorem pay5_at (x : Vec Ideal S512x2048 .f32) (g : Vec Ideal S1x2048 .f32) (i : Fin 512) (k : Fin 2048) :
    k0_pay5 x g (ix2 i k) = norm (fun j => x (ix2 i j)) (fun j => g (ix2 0 j)) k := by
  pointwise [k0_pay5]
  rfl

end Cert.Kernel2Ideal.Ffn
-- ==== Proof.FfnBlk2.lean ====
module

public import proofs.«01_k».proof.Proof.Gen.Kernel2Ideal.Value
public import Idealize.ShloMosaic.Lib.Pipeline.ValueKit.Point
public import Idealize.ShloMosaic.Lib.StableHlo.ReadAt

/-! The blocks of the idealized feed-forward call, read at an index from the program's arguments. -/

@[expose] public section

set_option maxRecDepth 16384

noncomputable section

namespace Cert.Kernel2Ideal.Ffn

open Idealize.ShloMosaic Idealize.ShloMosaic.TcCoe
open Cert.Kernel2Ideal Cert.Kernel2Ideal.Gen

variable (m : (ℓ : Loc nD τ sig) → Buf (Elt Ideal) ℓ) (c : Dev nD)

abbrev A0 : Vec Ideal S32768x2048 .f32 := m ((c : Thread nD τ).loc main_arg0)
abbrev A1 : Vec Ideal S2048 .f32 := m ((c : Thread nD τ).loc main_arg1)
abbrev A2 : Vec Ideal S2048x5504 .f32 := m ((c : Thread nD τ).loc main_arg2)
abbrev A3 : Vec Ideal S2048x5504 .f32 := m ((c : Thread nD τ).loc main_arg3)
abbrev A4 : Vec Ideal S5504x2048 .f32 := m ((c : Thread nD τ).loc main_arg4)
abbrev A5 : Vec Ideal S2048 .f32 := m ((c : Thread nD τ).loc main_arg5)

theorem arg0_at (r : Fin 32768) (k : Fin 2048) : (V m c main_arg0 : Vec Ideal S32768x2048 .f32) (ix2 r k) = A0 m c (ix2 r k) := by
  unfold V
  after_reads_at

theorem v3_at (k : Fin 2048) : (V m c main_v3 : Vec Ideal S1x2048 .f32) (ix2 0 k) = A1 m c (ix1 k) := by
  unfold V
  after_reads_at

theorem v0_at (k : Fin 2048) (f : Fin 5504) : (V m c main_v0 : Vec Ideal S2048x5504 .bf16) (ix2 k f) = A2 m c (ix2 k f) := by
  unfold V
  after_reads_at

theorem v1_at (k : Fin 2048) (f : Fin 5504) : (V m c main_v1 : Vec Ideal S2048x5504 .bf16) (ix2 k f) = A3 m c (ix2 k f) := by
  unfold V
  after_reads_at

theorem v2_at (f : Fin 5504) (k : Fin 2048) : (V m c main_v2 : Vec Ideal S5504x2048 .bf16) (ix2 f k) = A4 m c (ix2 f k) := by
  unfold V
  after_reads_at

theorem v4_at (k : Fin 2048) (f : Fin 384) : (V m c main_v4 : Vec Ideal S2048x384 .bf16) (ix2 k f) = A2 m c (ix2 k ⟨5120 + f.val, by omega⟩) := by
  unfold V
  after_reads_at

theorem v5_at (k : Fin 2048) (f : Fin 384) : (V m c main_v5 : Vec Ideal S2048x384 .bf16) (ix2 k f) = A3 m c (ix2 k ⟨5120 + f.val, by omega⟩) := by
  unfold V
  after_reads_at

theorem v6_at (f : Fin 384) (k : Fin 2048) : (V m c main_v6 : Vec Ideal S384x2048 .bf16) (ix2 f k) = A4 m c (ix2 ⟨5120 + f.val, by omega⟩ k) := by
  unfold V
  after_reads_at

theorem v7_at (k : Fin 2048) : (V m c main_v7 : Vec Ideal S1x2048 .f32) (ix2 0 k) = A5 m c (ix1 k) := by
  unfold V
  after_reads_at

/-- Where each window's block lies. -/
theorem places : ∀ t : Fin cfg0.N,
    win0_0.index t = ![t.val / 11, 0] ∧
    win0_1.index t = ![0, 0] ∧
    win0_2.index t = ![0, min (t.val % 11) 9] ∧
    win0_3.index t = ![0, min (t.val % 11) 9] ∧
    win0_4.index t = ![min (t.val % 11) 9, 0] ∧
    win0_5.index t = ![0, 0] ∧
    win0_6.index t = ![0, 0] ∧
    win0_7.index t = ![0, 0] ∧
    win0_8.index t = ![0, 0] ∧
    win0_9.index t = ![t.val / 11, 0] :=
  (by decide +kernel : ∀ t : Fin grid0.N, _)

theorem lt_points (t : Fin cfg0.N) : t.val < 704 := lt_of_lt_of_eq t.isLt (show cfg0.N = 704 from N_0)

theorem row_lt (t : Fin cfg0.N) (r : Fin 512) : 512 * (t.val / 11) + r.val < 32768 := by
  have := lt_points t
  omega

theorem slab_lt (j : ℕ) (f : Fin 512) : 512 * min (j % 11) 9 + f.val < 5504 := by
  omega

theorem blk0 (t : Fin cfg0.N) (r : Fin 512) (k : Fin 2048) :
    (iblk m c 0 t : Vec Ideal S512x2048 .f32) (ix2 r k) = A0 m c (ix2 ⟨512 * (t.val / 11) + r.val, row_lt t r⟩ k) := by
  refine Eq.trans ?_ (arg0_at m c _ _)
  have h := (places t).1
  blk_ext [iblk, h]

theorem blk1 (t : Fin cfg0.N) (k : Fin 2048) :
    (iblk m c 1 t : Vec Ideal S1x2048 .f32) (ix2 0 k) = A1 m c (ix1 k) := by
  refine Eq.trans ?_ (v3_at m c _)
  have h := (places t).2.1
  blk_ext [iblk, h]

theorem blk2 (t : Fin cfg0.N) (k : Fin 2048) (f : Fin 512) :
    (X0_2 m c t : Vec Ideal S2048x512 .bf16) (ix2 k f) = A2 m c (ix2 k ⟨512 * min (t.val % 11) 9 + f.val, slab_lt _ f⟩) := by
  refine Eq.trans ?_ (v0_at m c _ _)
  have h := (places t).2.2.1
  unfold X0_2 Pipeline.Window.fill
  rw [dif_pos (moved0_2 t _)]
  blk_ext [iblk, h]

theorem blk3 (t : Fin cfg0.N) (k : Fin 2048) (f : Fin 512) :
    (X0_3 m c t : Vec Ideal S2048x512 .bf16) (ix2 k f) = A3 m c (ix2 k ⟨512 * min (t.val % 11) 9 + f.val, slab_lt _ f⟩) := by
  refine Eq.trans ?_ (v1_at m c _ _)
  have h := (places t).2.2.2.1
  unfold X0_3 Pipeline.Window.fill
  rw [dif_pos (moved0_3 t _)]
  blk_ext [iblk, h]

theorem blk4 (t : Fin cfg0.N) (f : Fin 512) (k : Fin 2048) :
    (X0_4 m c t : Vec Ideal S512x2048 .bf16) (ix2 f k) = A4 m c (ix2 ⟨512 * min (t.val % 11) 9 + f.val, slab_lt _ f⟩ k) := by
  refine Eq.trans ?_ (v2_at m c _ _)
  have h := (places t).2.2.2.2.1
  unfold X0_4 Pipeline.Window.fill
  rw [dif_pos (moved0_4 t _)]
  blk_ext [iblk, h]

theorem blk5 (t : Fin cfg0.N) (k : Fin 2048) (f : Fin 384) :
    (iblk m c 5 t : Vec Ideal S2048x384 .bf16) (ix2 k f) = A2 m c (ix2 k ⟨5120 + f.val, by omega⟩) := by
  refine Eq.trans ?_ (v4_at m c _ _)
  have h := (places t).2.2.2.2.2.1
  blk_ext [iblk, h]

theorem blk6 (t : Fin cfg0.N) (k : Fin 2048) (f : Fin 384) :
    (iblk m c 6 t : Vec Ideal S2048x384 .bf16) (ix2 k f) = A3 m c (ix2 k ⟨5120 + f.val, by omega⟩) := by
  refine Eq.trans ?_ (v5_at m c _ _)
  have h := (places t).2.2.2.2.2.2.1
  blk_ext [iblk, h]

theorem blk7 (t : Fin cfg0.N) (f : Fin 384) (k : Fin 2048) :
    (iblk m c 7 t : Vec Ideal S384x2048 .bf16) (ix2 f k) = A4 m c (ix2 ⟨5120 + f.val, by omega⟩ k) := by
  refine Eq.trans ?_ (v6_at m c _ _)
  have h := (places t).2.2.2.2.2.2.2.1
  blk_ext [iblk, h]

theorem blk8 (t : Fin cfg0.N) (k : Fin 2048) :
    (iblk m c 8 t : Vec Ideal S1x2048 .f32) (ix2 0 k) = A5 m c (ix1 k) := by
  refine Eq.trans ?_ (v7_at m c _)
  have h := (places t).2.2.2.2.2.2.2.2.1
  blk_ext [iblk, h]

end Cert.Kernel2Ideal.Ffn
-- ==== Proof.FfnOut2.lean ====
module

public import proofs.«01_k».proof.Proof.FfnPay2
public import proofs.«01_k».proof.Proof.FfnRow2
public import proofs.«01_k».proof.Proof.FfnBlk2

/-! The idealized feed-forward call's array after its run. -/

@[expose] public section

set_option maxRecDepth 16384

noncomputable section

namespace Cert.Kernel2Ideal.Ffn

open Idealize.ShloMosaic Idealize.ShloMosaic.TcCoe
open Cert.Kernel2Ideal Cert.Kernel2Ideal.Gen Cert.Ffn
open Idealize.ShloMosaic.Pipeline (Dat)

variable (m : (ℓ : Loc nD τ sig) → Buf (Elt Ideal) ℓ) (c : Dev nD)

/-- A row of the input. -/
abbrev rowX (R : Fin 32768) : Fin 2048 → EReal := fun k => A0 m c (ix2 R k)
/-- The gains of the norm before. -/
abbrev gain : Fin 2048 → EReal := fun k => A1 m c (ix1 k)
/-- The gate's weights. -/
abbrev wG : Fin 2048 → Fin 5504 → EReal := fun k f => A2 m c (ix2 k f)
/-- The up projection's weights. -/
abbrev wU : Fin 2048 → Fin 5504 → EReal := fun k f => A3 m c (ix2 k f)
/-- The down projection's weights. -/
abbrev wD : Fin 5504 → Fin 2048 → EReal := fun f k => A4 m c (ix2 f k)
/-- The input row of a grid point's row. -/
abbrev rowOf (t : Fin cfg0.N) (r : Fin 512) : Fin 32768 := ⟨512 * (t.val / 11) + r.val, row_lt t r⟩

theorem gated_congr {n n' : ℕ} (h h' : Fin 2048 → EReal) (wg wu : Fin 2048 → Fin n → EReal) (wg' wu' : Fin 2048 → Fin n' → EReal)
    (f : Fin n) (f' : Fin n') (e : ∀ k, h k = h' k) (e1 : ∀ k, wg k f = wg' k f') (e2 : ∀ k, wu k f = wu' k f') :
    gated h wg wu f = gated h' wg' wu' f' := by
  obtain rfl : h = h' := funext e
  unfold gated
  simp only [e1, e2]

/-- A slab's contribution to output feature `k`. -/
theorem slab_term (t : Fin cfg0.N) (h : Fin 2048 → EReal) (x : Fin 2048 → EReal) (e : ∀ k, h k = norm x (gain m c) k) (k : Fin 2048) (f : Fin 512)
    (n : ℕ) (hn : n = 512 * (t.val % 11)) (h9 : t.val % 11 ≤ 9) :
    gated h (fun j f => (X0_2 m c t : Vec Ideal S2048x512 .bf16) (ix2 j f)) (fun j f => (X0_3 m c t : Vec Ideal S2048x512 .bf16) (ix2 j f)) f
        * (X0_4 m c t : Vec Ideal S512x2048 .bf16) (ix2 f k)
      = term (norm x (gain m c)) (wG m c) (wU m c) (wD m c) k (n + f.val) := by
  have hm : 512 * min (t.val % 11) 9 + f.val = n + f.val := by omega
  have hlt : n + f.val < 5504 := by omega
  have hi : (⟨512 * min (t.val % 11) 9 + f.val, slab_lt _ f⟩ : Fin 5504) = ⟨n + f.val, hlt⟩ := Fin.ext hm
  unfold term
  rw [dif_pos hlt]
  refine congrArg₂ (· * ·) (gated_congr _ _ _ _ _ _ _ _ e (fun j => ?_) (fun j => ?_)) ?_
  · exact (blk2 m c t j f).trans (congrArg (fun z => A2 m c (ix2 j z)) hi)
  · exact (blk3 m c t j f).trans (congrArg (fun z => A3 m c (ix2 j z)) hi)
  · exact (blk4 m c t f k).trans (congrArg (fun z => A4 m c (ix2 z k)) hi)

/-- What the buffers hold after a slab short of the last. -/
def Held (n : ℕ) (hn : n < cfg0.N) : Prop :=
  ∀ (r : Fin 512) (k : Fin 2048),
    (outsAt0 m c n hn).1 (ix2 r k) = upTo (rowX m c (rowOf ⟨n, hn⟩ r)) (gain m c) (wG m c) (wU m c) (wD m c) (512 * (n % 11) + 512) k
    ∧ (outsAt0 m c n hn).2 (ix2 r k) = norm (rowX m c (rowOf ⟨n, hn⟩ r)) (gain m c) k

/-- The first slab's. -/
theorem held_A (t : Fin cfg0.N) (h : t.val % 11 = 0) : Held m c t.val t.isLt := by
  intro r k
  have hx : ∀ j, (iblk m c 0 t : Vec Ideal S512x2048 .f32) (ix2 r j) = rowX m c (rowOf t r) j := fun j => blk0 m c t r j
  have hg : ∀ j, (iblk m c 1 t : Vec Ideal S1x2048 .f32) (ix2 0 j) = gain m c j := fun j => blk1 m c t j
  have hh : ∀ j, k0_pay1 (iblk m c 0 t) (iblk m c 1 t) (ix2 r j) = norm (rowX m c (rowOf t r)) (gain m c) j := by
    intro j
    rw [pay1_at]
    exact congrArg₂ (fun x g => norm x g j) (funext hx) (funext hg)
  rw [outs_A m c t h]
  refine ⟨?_, hh k⟩
  dsimp only
  rw [pay2_at, hx]
  have := slab_first (rowX m c (rowOf t r) k) (term (norm (rowX m c (rowOf t r)) (gain m c)) (wG m c) (wU m c) (wD m c) k) _
    fun f : Fin 512 => (slab_term m c t (fun j => k0_pay1 (iblk m c 0 t) (iblk m c 1 t) (ix2 r j)) _ hh k f 0 (by omega) (by omega)).trans
      (congrArg _ (Nat.zero_add _))
  rw [this]
  unfold upTo
  rw [h]

/-- A middle slab's, from the one before. -/
theorem held_B (n : ℕ) (hn : n + 1 < cfg0.N) (h : 1 ≤ (n + 1) % 11 ∧ (n + 1) % 11 ≤ 9) (ih : Held m c n (Nat.lt_of_succ_lt hn)) :
    Held m c (n + 1) hn := by
  intro r k
  have hr : rowOf ⟨n + 1, hn⟩ r = rowOf ⟨n, Nat.lt_of_succ_lt hn⟩ r := Fin.ext (by show 512 * ((n + 1) / 11) + r.val = 512 * (n / 11) + r.val; omega)
  have hs : 512 * (n % 11) + 512 = 512 * ((n + 1) % 11) := by omega
  have e := outs_B m c ⟨n + 1, hn⟩ h
  have e' : outsAt0 m c (n + 1) hn = (k0_pay3 (outsAt0 m c n (Nat.lt_of_succ_lt hn)).2 (X0_2 m c ⟨n + 1, hn⟩) (X0_3 m c ⟨n + 1, hn⟩)
        (outsAt0 m c n (Nat.lt_of_succ_lt hn)).1 (X0_4 m c ⟨n + 1, hn⟩), (outsAt0 m c n (Nat.lt_of_succ_lt hn)).2) := e
  rw [e', hr]
  refine ⟨?_, (ih r k).2⟩
  dsimp only
  rw [pay3_at, (ih r k).1, hs]
  unfold upTo
  exact slab (rowX m c (rowOf ⟨n, Nat.lt_of_succ_lt hn⟩ r) k) (term (norm (rowX m c (rowOf ⟨n, Nat.lt_of_succ_lt hn⟩ r)) (gain m c)) (wG m c) (wU m c) (wD m c) k) _ _
    fun f : Fin 512 => slab_term m c ⟨n + 1, hn⟩ (fun j => (outsAt0 m c n (Nat.lt_of_succ_lt hn)).2 (ix2 r j)) _ (fun j => (ih r j).2) k f _ rfl h.2

/-- Every slab's short of the last. -/
theorem held : ∀ (n : ℕ) (hn : n < cfg0.N), n % 11 ≤ 9 → Held m c n hn
  | 0, hn, _ => held_A m c ⟨0, hn⟩ rfl
  | n + 1, hn, h => by
    by_cases h0 : (n + 1) % 11 = 0
    · exact held_A m c ⟨n + 1, hn⟩ h0
    · exact held_B m c n hn ⟨by omega, h⟩ (held n (Nat.lt_of_succ_lt hn) (by omega))

/-- The layer's half-step feed-forward of a row, and the final norm. -/
def result : Vec Ideal S32768x2048 .f32 := fun z =>
  norm (ffn (rowX m c (z 0)) (gain m c) (wG m c) (wU m c) (wD m c)) (fun k => A5 m c (ix1 k)) (z 1)

/-- The tail slab over the row. -/
theorem tail_at (n : ℕ) (hn : n + 1 < cfg0.N) (h : (n + 1) % 11 = 10) (r : Fin 512) (k : Fin 2048) :
    k0_pay4 (outsAt0 m c n (Nat.lt_of_succ_lt hn)).2 (iblk m c 5 ⟨n + 1, hn⟩) (iblk m c 6 ⟨n + 1, hn⟩)
        (outsAt0 m c n (Nat.lt_of_succ_lt hn)).1 (iblk m c 7 ⟨n + 1, hn⟩) (ix2 r k)
      = ffn (rowX m c (rowOf ⟨n + 1, hn⟩ r)) (gain m c) (wG m c) (wU m c) (wD m c) k := by
  have hr : rowOf ⟨n + 1, hn⟩ r = rowOf ⟨n, Nat.lt_of_succ_lt hn⟩ r := Fin.ext (by show 512 * ((n + 1) / 11) + r.val = 512 * (n / 11) + r.val; omega)
  have ih := held m c n (Nat.lt_of_succ_lt hn) (by omega)
  have hs : 512 * (n % 11) + 512 = 5120 := by omega
  rw [pay4_at, (ih r k).1, hr, hs, ← upTo_all]
  unfold upTo
  refine slab (rowX m c (rowOf ⟨n, Nat.lt_of_succ_lt hn⟩ r) k) (term (norm (rowX m c (rowOf ⟨n, Nat.lt_of_succ_lt hn⟩ r)) (gain m c)) (wG m c) (wU m c) (wD m c) k) 5120 _
    fun f : Fin 384 => ?_
  have hlt : 5120 + f.val < 5504 := by omega
  unfold term
  rw [dif_pos hlt]
  exact congrArg₂ (· * ·) (gated_congr _ _ _ _ _ _ _ _ (fun j => (ih r j).2) (fun j => blk5 m c ⟨n + 1, hn⟩ j f) (fun j => blk6 m c ⟨n + 1, hn⟩ j f)) (blk7 m c ⟨n + 1, hn⟩ f k)

/-- What the last slab's grid point leaves. -/
theorem last_at (n : ℕ) (hn : n + 1 < cfg0.N) (h : (n + 1) % 11 = 10) (r : Fin 512) (k : Fin 2048) :
    (outsAt0 m c (n + 1) hn).1 (ix2 r k) = result m c (ix2 (rowOf ⟨n + 1, hn⟩ r) k) := by
  have e : (outsAt0 m c (n + 1) hn).1 = k0_pay5 (k0_pay4 (outsAt0 m c n (Nat.lt_of_succ_lt hn)).2 (iblk m c 5 ⟨n + 1, hn⟩) (iblk m c 6 ⟨n + 1, hn⟩)
        (outsAt0 m c n (Nat.lt_of_succ_lt hn)).1 (iblk m c 7 ⟨n + 1, hn⟩)) (iblk m c 8 ⟨n + 1, hn⟩) := outs_C m c ⟨n + 1, hn⟩ h
  rw [e, pay5_at]
  exact congrArg₂ (fun x g => norm x g k) (funext fun j => tail_at m c n hn h r j) (funext fun j => blk8 m c ⟨n + 1, hn⟩ j)

theorem blk_out (t : Fin cfg0.N) (h : t.val % 11 = 10) (y : S512x2048.Idx) :
    (outsAt0 m c t.val t.isLt).1 y = result m c ((win0_9.blk t).view.emb y) := by
  have hp := (places t).2.2.2.2.2.2.2.2.2
  have p0 : ((win0_9.blk t).view.emb y 0).val = 512 * (t.val / 11) + (y 0).val := by blk_simp [hp]; omega
  have p1 : ((win0_9.blk t).view.emb y 1).val = (y 1).val := by blk_simp [hp]
  obtain ⟨n, hn⟩ := t
  cases n with
  | zero => exact absurd (show 0 % 11 = 10 from h) (by decide)
  | succ n =>
    have hy : y = ix2 (n0 := 512) (n1 := 2048) (y 0) (y 1) := by
      funext a
      fin_cases a <;> rfl
    refine (congrArg (outsAt0 m c (n + 1) hn).1 hy).trans ((last_at m c n hn h (y 0) (y 1)).trans (congrArg (result m c) ?_))
    funext a
    fin_cases a
    · exact Fin.ext p0.symm
    · exact Fin.ext p1.symm

/-- The array of the result after the run. -/
theorem arr_eq : (dats m 0 c).arrAt 9 cfg0.N = result m c := by
  refine (dats m 0 c).arrAt_eq_of_covers 9 _ (by decide +kernel) fun t hf y => ?_
  blk_simp
  rw [after0_9]
  exact blk_out m c t ((flush0_9 t).mp hf) y

end Cert.Kernel2Ideal.Ffn
-- ==== Proof.FfnRef2.lean ====
module

public import proofs.«01_k».proof.Proof.Gen.Reference2Ideal.Read
public import proofs.«01_k».proof.Proof.FfnMath
public import Idealize.ShloMosaic.Lib.Pointwise
public import Idealize.ShloMosaic.Lib.Tactic.CleanTypes

/-! The reference of the feed-forward with the final norm, read at an index. -/

@[expose] public section

set_option maxRecDepth 16384

noncomputable section

namespace Cert.Reference2Ideal.Ffn

open Idealize.ShloMosaic Idealize.ShloMosaic.TcCoe
open Cert.Reference2Ideal Cert.Reference2Ideal.Gen Cert.Reference2Ideal.Read Cert.Ffn

variable (x0 : Vec Ideal S32768x2048 .f32) (x1 : Vec Ideal S2048 .f32) (x2 x3 : Vec Ideal S2048x5504 .f32) (x4 : Vec Ideal S5504x2048 .f32) (x5 : Vec Ideal S2048 .f32)
variable (r : Fin 32768)

/-- The norm before. -/
theorem v12_at (k : Fin 2048) :
    val_main_v12 (F := Ideal) x0 x1 (ix2 r k) = norm (fun k => x0 (ix2 r k)) (fun k => x1 (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The hidden features. -/
theorem v16_at (f : Fin 5504) :
    val_main_v16 (F := Ideal) x0 x1 x2 x3 (ix2 r f)
      = gated (norm (fun k => x0 (ix2 r k)) (fun k => x1 (ix1 k))) (fun k f => x2 (ix2 k f)) (fun k f => x3 (ix2 k f)) f := by
  have h := fun k => v12_at x0 x1 r k
  revert h
  unfold val_main_v16 val_main_v15 val_main_v14 val_main_call0_v5 val_main_call0_v3 val_main_call0_v1 val_main_call0_v0 val_main_v13
  generalize val_main_v12 (F := Ideal) x0 x1 = X
  intro h
  pointwise [val_main_call0_v4, val_main_call0_v2, val_main_call0_cst, val_main_call0_cst_0]
  simp only [h]
  rfl

/-- The half step. -/
theorem v20_at (k : Fin 2048) :
    val_main_v20 (F := Ideal) x0 x1 x2 x3 x4 (ix2 r k)
      = ffn (fun k => x0 (ix2 r k)) (fun k => x1 (ix1 k)) (fun k f => x2 (ix2 k f)) (fun k f => x3 (ix2 k f)) (fun f k => x4 (ix2 f k)) k := by
  have h := fun f => v16_at x0 x1 x2 x3 r f
  revert h
  unfold val_main_v20 val_main_v19 val_main_v17
  generalize val_main_v16 (F := Ideal) x0 x1 x2 x3 = X
  intro h
  pointwise [val_main_v18, val_main_cst_2]
  simp only [h]
  rfl

/-- The result. -/
theorem v33_at (k : Fin 2048) :
    val_main_v33 (F := Ideal) x0 x1 x2 x3 x4 x5 (ix2 r k)
      = norm (ffn (fun k => x0 (ix2 r k)) (fun k => x1 (ix1 k)) (fun k f => x2 (ix2 k f)) (fun k f => x3 (ix2 k f)) (fun f k => x4 (ix2 f k))) (fun k => x5 (ix1 k)) k := by
  have h := fun k => v20_at x0 x1 x2 x3 x4 r k
  revert h
  unfold val_main_v33 val_main_v30 val_main_v29 val_main_v28 val_main_v27 val_main_v25 val_main_v23 val_main_v22 val_main_v21
  generalize val_main_v20 (F := Ideal) x0 x1 x2 x3 x4 = X
  intro h
  pointwise [val_main_v32, val_main_v31, val_main_v26, val_main_v24, val_main_cst_3, val_main_cst_4, val_main_cst_5]
  simp only [h]
  rfl

/-- The result at any index. -/
theorem v33_all (z : S32768x2048.Idx) :
    val_main_v33 (F := Ideal) x0 x1 x2 x3 x4 x5 z
      = norm (ffn (fun k => x0 (ix2 (z 0) k)) (fun k => x1 (ix1 k)) (fun k f => x2 (ix2 k f)) (fun k f => x3 (ix2 k f)) (fun f k => x4 (ix2 f k))) (fun k => x5 (ix1 k)) (z 1) := by
  have hz : z = ix2 (n0 := 32768) (n1 := 2048) (z 0) (z 1) := by
    funext a
    fin_cases a <;> rfl
  exact (congrArg (val_main_v33 (F := Ideal) x0 x1 x2 x3 x4 x5) hz).trans (v33_at x0 x1 x2 x3 x4 x5 (z 0) (z 1))

end Cert.Reference2Ideal.Ffn
-- ==== Proof.FfnPay3.lean ====
module

public import proofs.«01_k».proof.Proof.Gen.Kernel3Ideal.Value
public import Idealize.ShloMosaic.Lib.Pipeline.ValueKit.Acc
public import Idealize.ShloMosaic.Lib.Pipeline.ValueKit.Point
public import Idealize.ShloMosaic.Lib.Pipeline.ReadBack
public import Idealize.ShloMosaic.Lib.Pointwise

/-! What the cases of the idealized feed-forward call leave in the output's buffer, as the payloads of its stores. -/

@[expose] public section

set_option maxRecDepth 16384

noncomputable section

namespace Cert.Kernel3Ideal.Ffn

open Idealize.ShloMosaic Idealize.ShloMosaic.TcCoe
open Cert.Kernel3Ideal Cert.Kernel3Ideal.Gen

variable (m : (ℓ : Loc nD τ sig) → Buf (Elt Ideal) ℓ) (c : Dev nD)

/-- What a first slab's grid point leaves. -/
theorem outs_A (t : Fin cfg0.N) (h : t.val % 11 = 0) :
    outsAt0 m c t.val t.isLt = (k0_pay2 (k0_pay1 (iblk m c 0 t) (iblk m c 1 t)) (X0_2 m c t) (X0_3 m c t) (iblk m c 0 t) (X0_4 m c t),
      k0_pay1 (iblk m c 0 t) (iblk m c 1 t)) := by
  rw [outsAt0_A m c t h h (by omega) (by omega)]
  refine Prod.ext ?_ ?_
  · dsimp only
    frame_out
  · dsimp only
    frame_out

/-- What a middle slab's grid point leaves. -/
theorem outs_B (t : Fin cfg0.N) (h : 1 ≤ t.val % 11 ∧ t.val % 11 ≤ 9) :
    outsAt0 m c t.val t.isLt =
      (k0_pay3 (outsAt0 m c (t.val - 1) (Nat.lt_of_le_of_lt (Nat.sub_le _ _) t.isLt)).2 (X0_2 m c t) (X0_3 m c t)
        (outsAt0 m c (t.val - 1) (Nat.lt_of_le_of_lt (Nat.sub_le _ _) t.isLt)).1 (X0_4 m c t),
      (outsAt0 m c (t.val - 1) (Nat.lt_of_le_of_lt (Nat.sub_le _ _) t.isLt)).2) := by
  rw [outsAt0_B m c t (by omega) (by omega) h (by omega)]
  generalize outsAt0 m c (t.val - 1) (Nat.lt_of_le_of_lt (Nat.sub_le _ _) t.isLt) = o
  refine Prod.ext ?_ ?_
  · dsimp only
    frame_out
    exact congrArg (fun z => k0_pay3 z (X0_2 m c t) (X0_3 m c t) o.1 (X0_4 m c t)) (read_unread_whole cc0_scratch0 _ o.2)
  · rfl

/-- What a last slab's grid point leaves. -/
theorem outs_C (t : Fin cfg0.N) (h : t.val % 11 = 10) :
    (outsAt0 m c t.val t.isLt).1 =
      k0_pay4 (outsAt0 m c (t.val - 1) (Nat.lt_of_le_of_lt (Nat.sub_le _ _) t.isLt)).2 (iblk m c 5 t) (iblk m c 6 t)
        (outsAt0 m c (t.val - 1) (Nat.lt_of_le_of_lt (Nat.sub_le _ _) t.isLt)).1 (iblk m c 7 t) := by
  rw [outsAt0_C m c t (by omega) (by omega) (by omega) h]
  generalize outsAt0 m c (t.val - 1) (Nat.lt_of_le_of_lt (Nat.sub_le _ _) t.isLt) = o
  dsimp only
  frame_out
  exact congrArg (fun z => k0_pay4 z (iblk m c 5 t) (iblk m c 6 t) o.1 (iblk m c 7 t)) (read_unread_whole cc0_scratch0 _ o.2)

end Cert.Kernel3Ideal.Ffn
-- ==== Proof.FfnRow3.lean ====
module

public import proofs.«01_k».proof.Proof.Gen.Kernel3Ideal.Skeleton
public import proofs.«01_k».proof.Proof.FfnMath
public import Idealize.ShloMosaic.Lib.Pointwise

/-! The payloads of the idealized feed-forward call, read at an index. -/

@[expose] public section

set_option maxRecDepth 16384

noncomputable section

namespace Cert.Kernel3Ideal.Ffn

open Idealize.ShloMosaic Idealize.ShloMosaic.TcCoe
open Cert.Kernel3Ideal Cert.Kernel3Ideal.Gen Cert.Ffn

theorem pay1_at (x : Vec Ideal S512x2048 .f32) (g : Vec Ideal S1x2048 .f32) (i : Fin 512) (k : Fin 2048) :
    k0_pay1 x g (ix2 i k) = norm (fun j => x (ix2 i j)) (fun j => g (ix2 0 j)) k := by
  pointwise [k0_pay1]
  rfl

theorem pay2_at (h : Vec Ideal S512x2048 .bf16) (wg wu : Vec Ideal S2048x512 .bf16) (x : Vec Ideal S512x2048 .f32) (wd : Vec Ideal S512x2048 .bf16) (i : Fin 512) (k : Fin 2048) :
    k0_pay2 h wg wu x wd (ix2 i k) = x (ix2 i k) + half * ∑ f : Fin 512, gated (fun j => h (ix2 i j)) (fun j f => wg (ix2 j f)) (fun j f => wu (ix2 j f)) f * wd (ix2 f k) := by
  pointwise [k0_pay2]
  rfl

theorem pay3_at (h : Vec Ideal S512x2048 .bf16) (wg wu : Vec Ideal S2048x512 .bf16) (x : Vec Ideal S512x2048 .f32) (wd : Vec Ideal S512x2048 .bf16) (i : Fin 512) (k : Fin 2048) :
    k0_pay3 h wg wu x wd (ix2 i k) = x (ix2 i k) + half * ∑ f : Fin 512, gated (fun j => h (ix2 i j)) (fun j f => wg (ix2 j f)) (fun j f => wu (ix2 j f)) f * wd (ix2 f k) := by
  pointwise [k0_pay3]
  rfl

theorem pay4_at (h : Vec Ideal S512x2048 .bf16) (wg wu : Vec Ideal S2048x384 .bf16) (x : Vec Ideal S512x2048 .f32) (wd : Vec Ideal S384x2048 .bf16) (i : Fin 512) (k : Fin 2048) :
    k0_pay4 h wg wu x wd (ix2 i k) = x (ix2 i k) + half * ∑ f : Fin 384, gated (fun j => h (ix2 i j)) (fun j f => wg (ix2 j f)) (fun j f => wu (ix2 j f)) f * wd (ix2 f k) := by
  pointwise [k0_pay4]
  rfl

end Cert.Kernel3Ideal.Ffn
-- ==== Proof.FfnBlk3.lean ====
module

public import proofs.«01_k».proof.Proof.Gen.Kernel3Ideal.Value
public import Idealize.ShloMosaic.Lib.Pipeline.ValueKit.Point
public import Idealize.ShloMosaic.Lib.StableHlo.ReadAt

/-! The blocks of the idealized feed-forward call, read at an index from the program's arguments. -/

@[expose] public section

set_option maxRecDepth 16384

noncomputable section

namespace Cert.Kernel3Ideal.Ffn

open Idealize.ShloMosaic Idealize.ShloMosaic.TcCoe
open Cert.Kernel3Ideal Cert.Kernel3Ideal.Gen

variable (m : (ℓ : Loc nD τ sig) → Buf (Elt Ideal) ℓ) (c : Dev nD)

abbrev A0 : Vec Ideal S32768x2048 .f32 := m ((c : Thread nD τ).loc main_arg0)
abbrev A1 : Vec Ideal S2048 .f32 := m ((c : Thread nD τ).loc main_arg1)
abbrev A2 : Vec Ideal S2048x5504 .f32 := m ((c : Thread nD τ).loc main_arg2)
abbrev A3 : Vec Ideal S2048x5504 .f32 := m ((c : Thread nD τ).loc main_arg3)
abbrev A4 : Vec Ideal S5504x2048 .f32 := m ((c : Thread nD τ).loc main_arg4)

theorem arg0_at (r : Fin 32768) (k : Fin 2048) : (V m c main_arg0 : Vec Ideal S32768x2048 .f32) (ix2 r k) = A0 m c (ix2 r k) := by
  unfold V
  after_reads_at

theorem v3_at (k : Fin 2048) : (V m c main_v3 : Vec Ideal S1x2048 .f32) (ix2 0 k) = A1 m c (ix1 k) := by
  unfold V
  after_reads_at

theorem v0_at (k : Fin 2048) (f : Fin 5504) : (V m c main_v0 : Vec Ideal S2048x5504 .bf16) (ix2 k f) = A2 m c (ix2 k f) := by
  unfold V
  after_reads_at

theorem v1_at (k : Fin 2048) (f : Fin 5504) : (V m c main_v1 : Vec Ideal S2048x5504 .bf16) (ix2 k f) = A3 m c (ix2 k f) := by
  unfold V
  after_reads_at

theorem v2_at (f : Fin 5504) (k : Fin 2048) : (V m c main_v2 : Vec Ideal S5504x2048 .bf16) (ix2 f k) = A4 m c (ix2 f k) := by
  unfold V
  after_reads_at

theorem v4_at (k : Fin 2048) (f : Fin 384) : (V m c main_v4 : Vec Ideal S2048x384 .bf16) (ix2 k f) = A2 m c (ix2 k ⟨5120 + f.val, by omega⟩) := by
  unfold V
  after_reads_at

theorem v5_at (k : Fin 2048) (f : Fin 384) : (V m c main_v5 : Vec Ideal S2048x384 .bf16) (ix2 k f) = A3 m c (ix2 k ⟨5120 + f.val, by omega⟩) := by
  unfold V
  after_reads_at

theorem v6_at (f : Fin 384) (k : Fin 2048) : (V m c main_v6 : Vec Ideal S384x2048 .bf16) (ix2 f k) = A4 m c (ix2 ⟨5120 + f.val, by omega⟩ k) := by
  unfold V
  after_reads_at

/-- Where each window's block lies. -/
theorem places : ∀ t : Fin cfg0.N,
    win0_0.index t = ![t.val / 11, 0] ∧
    win0_1.index t = ![0, 0] ∧
    win0_2.index t = ![0, min (t.val % 11) 9] ∧
    win0_3.index t = ![0, min (t.val % 11) 9] ∧
    win0_4.index t = ![min (t.val % 11) 9, 0] ∧
    win0_5.index t = ![0, 0] ∧
    win0_6.index t = ![0, 0] ∧
    win0_7.index t = ![0, 0] ∧
    win0_8.index t = ![t.val / 11, 0] :=
  (by decide +kernel : ∀ t : Fin grid0.N, _)

theorem lt_points (t : Fin cfg0.N) : t.val < 704 := lt_of_lt_of_eq t.isLt (show cfg0.N = 704 from N_0)

theorem row_lt (t : Fin cfg0.N) (r : Fin 512) : 512 * (t.val / 11) + r.val < 32768 := by
  have := lt_points t
  omega

theorem slab_lt (j : ℕ) (f : Fin 512) : 512 * min (j % 11) 9 + f.val < 5504 := by
  omega

theorem blk0 (t : Fin cfg0.N) (r : Fin 512) (k : Fin 2048) :
    (iblk m c 0 t : Vec Ideal S512x2048 .f32) (ix2 r k) = A0 m c (ix2 ⟨512 * (t.val / 11) + r.val, row_lt t r⟩ k) := by
  refine Eq.trans ?_ (arg0_at m c _ _)
  have h := (places t).1
  blk_ext [iblk, h]

theorem blk1 (t : Fin cfg0.N) (k : Fin 2048) :
    (iblk m c 1 t : Vec Ideal S1x2048 .f32) (ix2 0 k) = A1 m c (ix1 k) := by
  refine Eq.trans ?_ (v3_at m c _)
  have h := (places t).2.1
  blk_ext [iblk, h]

theorem blk2 (t : Fin cfg0.N) (k : Fin 2048) (f : Fin 512) :
    (X0_2 m c t : Vec Ideal S2048x512 .bf16) (ix2 k f) = A2 m c (ix2 k ⟨512 * min (t.val % 11) 9 + f.val, slab_lt _ f⟩) := by
  refine Eq.trans ?_ (v0_at m c _ _)
  have h := (places t).2.2.1
  unfold X0_2 Pipeline.Window.fill
  rw [dif_pos (moved0_2 t _)]
  blk_ext [iblk, h]

theorem blk3 (t : Fin cfg0.N) (k : Fin 2048) (f : Fin 512) :
    (X0_3 m c t : Vec Ideal S2048x512 .bf16) (ix2 k f) = A3 m c (ix2 k ⟨512 * min (t.val % 11) 9 + f.val, slab_lt _ f⟩) := by
  refine Eq.trans ?_ (v1_at m c _ _)
  have h := (places t).2.2.2.1
  unfold X0_3 Pipeline.Window.fill
  rw [dif_pos (moved0_3 t _)]
  blk_ext [iblk, h]

theorem blk4 (t : Fin cfg0.N) (f : Fin 512) (k : Fin 2048) :
    (X0_4 m c t : Vec Ideal S512x2048 .bf16) (ix2 f k) = A4 m c (ix2 ⟨512 * min (t.val % 11) 9 + f.val, slab_lt _ f⟩ k) := by
  refine Eq.trans ?_ (v2_at m c _ _)
  have h := (places t).2.2.2.2.1
  unfold X0_4 Pipeline.Window.fill
  rw [dif_pos (moved0_4 t _)]
  blk_ext [iblk, h]

theorem blk5 (t : Fin cfg0.N) (k : Fin 2048) (f : Fin 384) :
    (iblk m c 5 t : Vec Ideal S2048x384 .bf16) (ix2 k f) = A2 m c (ix2 k ⟨5120 + f.val, by omega⟩) := by
  refine Eq.trans ?_ (v4_at m c _ _)
  have h := (places t).2.2.2.2.2.1
  blk_ext [iblk, h]

theorem blk6 (t : Fin cfg0.N) (k : Fin 2048) (f : Fin 384) :
    (iblk m c 6 t : Vec Ideal S2048x384 .bf16) (ix2 k f) = A3 m c (ix2 k ⟨5120 + f.val, by omega⟩) := by
  refine Eq.trans ?_ (v5_at m c _ _)
  have h := (places t).2.2.2.2.2.2.1
  blk_ext [iblk, h]

theorem blk7 (t : Fin cfg0.N) (f : Fin 384) (k : Fin 2048) :
    (iblk m c 7 t : Vec Ideal S384x2048 .bf16) (ix2 f k) = A4 m c (ix2 ⟨5120 + f.val, by omega⟩ k) := by
  refine Eq.trans ?_ (v6_at m c _ _)
  have h := (places t).2.2.2.2.2.2.2.1
  blk_ext [iblk, h]

end Cert.Kernel3Ideal.Ffn
-- ==== Proof.FfnOut3.lean ====
module

public import proofs.«01_k».proof.Proof.FfnPay3
public import proofs.«01_k».proof.Proof.FfnRow3
public import proofs.«01_k».proof.Proof.FfnBlk3

/-! The idealized feed-forward call's array after its run. -/

@[expose] public section

set_option maxRecDepth 16384

noncomputable section

namespace Cert.Kernel3Ideal.Ffn

open Idealize.ShloMosaic Idealize.ShloMosaic.TcCoe
open Cert.Kernel3Ideal Cert.Kernel3Ideal.Gen Cert.Ffn
open Idealize.ShloMosaic.Pipeline (Dat)

variable (m : (ℓ : Loc nD τ sig) → Buf (Elt Ideal) ℓ) (c : Dev nD)

/-- A row of the input. -/
abbrev rowX (R : Fin 32768) : Fin 2048 → EReal := fun k => A0 m c (ix2 R k)
/-- The gains of the norm before. -/
abbrev gain : Fin 2048 → EReal := fun k => A1 m c (ix1 k)
/-- The gate's weights. -/
abbrev wG : Fin 2048 → Fin 5504 → EReal := fun k f => A2 m c (ix2 k f)
/-- The up projection's weights. -/
abbrev wU : Fin 2048 → Fin 5504 → EReal := fun k f => A3 m c (ix2 k f)
/-- The down projection's weights. -/
abbrev wD : Fin 5504 → Fin 2048 → EReal := fun f k => A4 m c (ix2 f k)
/-- The input row of a grid point's row. -/
abbrev rowOf (t : Fin cfg0.N) (r : Fin 512) : Fin 32768 := ⟨512 * (t.val / 11) + r.val, row_lt t r⟩

theorem gated_congr {n n' : ℕ} (h h' : Fin 2048 → EReal) (wg wu : Fin 2048 → Fin n → EReal) (wg' wu' : Fin 2048 → Fin n' → EReal)
    (f : Fin n) (f' : Fin n') (e : ∀ k, h k = h' k) (e1 : ∀ k, wg k f = wg' k f') (e2 : ∀ k, wu k f = wu' k f') :
    gated h wg wu f = gated h' wg' wu' f' := by
  obtain rfl : h = h' := funext e
  unfold gated
  simp only [e1, e2]

/-- A slab's contribution to output feature `k`. -/
theorem slab_term (t : Fin cfg0.N) (h : Fin 2048 → EReal) (x : Fin 2048 → EReal) (e : ∀ k, h k = norm x (gain m c) k) (k : Fin 2048) (f : Fin 512)
    (n : ℕ) (hn : n = 512 * (t.val % 11)) (h9 : t.val % 11 ≤ 9) :
    gated h (fun j f => (X0_2 m c t : Vec Ideal S2048x512 .bf16) (ix2 j f)) (fun j f => (X0_3 m c t : Vec Ideal S2048x512 .bf16) (ix2 j f)) f
        * (X0_4 m c t : Vec Ideal S512x2048 .bf16) (ix2 f k)
      = term (norm x (gain m c)) (wG m c) (wU m c) (wD m c) k (n + f.val) := by
  have hm : 512 * min (t.val % 11) 9 + f.val = n + f.val := by omega
  have hlt : n + f.val < 5504 := by omega
  have hi : (⟨512 * min (t.val % 11) 9 + f.val, slab_lt _ f⟩ : Fin 5504) = ⟨n + f.val, hlt⟩ := Fin.ext hm
  unfold term
  rw [dif_pos hlt]
  refine congrArg₂ (· * ·) (gated_congr _ _ _ _ _ _ _ _ e (fun j => ?_) (fun j => ?_)) ?_
  · exact (blk2 m c t j f).trans (congrArg (fun z => A2 m c (ix2 j z)) hi)
  · exact (blk3 m c t j f).trans (congrArg (fun z => A3 m c (ix2 j z)) hi)
  · exact (blk4 m c t f k).trans (congrArg (fun z => A4 m c (ix2 z k)) hi)

/-- What the buffers hold after a slab short of the last. -/
def Held (n : ℕ) (hn : n < cfg0.N) : Prop :=
  ∀ (r : Fin 512) (k : Fin 2048),
    (outsAt0 m c n hn).1 (ix2 r k) = upTo (rowX m c (rowOf ⟨n, hn⟩ r)) (gain m c) (wG m c) (wU m c) (wD m c) (512 * (n % 11) + 512) k
    ∧ (outsAt0 m c n hn).2 (ix2 r k) = norm (rowX m c (rowOf ⟨n, hn⟩ r)) (gain m c) k

/-- The first slab's. -/
theorem held_A (t : Fin cfg0.N) (h : t.val % 11 = 0) : Held m c t.val t.isLt := by
  intro r k
  have hx : ∀ j, (iblk m c 0 t : Vec Ideal S512x2048 .f32) (ix2 r j) = rowX m c (rowOf t r) j := fun j => blk0 m c t r j
  have hg : ∀ j, (iblk m c 1 t : Vec Ideal S1x2048 .f32) (ix2 0 j) = gain m c j := fun j => blk1 m c t j
  have hh : ∀ j, k0_pay1 (iblk m c 0 t) (iblk m c 1 t) (ix2 r j) = norm (rowX m c (rowOf t r)) (gain m c) j := by
    intro j
    rw [pay1_at]
    exact congrArg₂ (fun x g => norm x g j) (funext hx) (funext hg)
  rw [outs_A m c t h]
  refine ⟨?_, hh k⟩
  dsimp only
  rw [pay2_at, hx]
  have := slab_first (rowX m c (rowOf t r) k) (term (norm (rowX m c (rowOf t r)) (gain m c)) (wG m c) (wU m c) (wD m c) k) _
    fun f : Fin 512 => (slab_term m c t (fun j => k0_pay1 (iblk m c 0 t) (iblk m c 1 t) (ix2 r j)) _ hh k f 0 (by omega) (by omega)).trans
      (congrArg _ (Nat.zero_add _))
  rw [this]
  unfold upTo
  rw [h]

/-- A middle slab's, from the one before. -/
theorem held_B (n : ℕ) (hn : n + 1 < cfg0.N) (h : 1 ≤ (n + 1) % 11 ∧ (n + 1) % 11 ≤ 9) (ih : Held m c n (Nat.lt_of_succ_lt hn)) :
    Held m c (n + 1) hn := by
  intro r k
  have hr : rowOf ⟨n + 1, hn⟩ r = rowOf ⟨n, Nat.lt_of_succ_lt hn⟩ r := Fin.ext (by show 512 * ((n + 1) / 11) + r.val = 512 * (n / 11) + r.val; omega)
  have hs : 512 * (n % 11) + 512 = 512 * ((n + 1) % 11) := by omega
  have e := outs_B m c ⟨n + 1, hn⟩ h
  have e' : outsAt0 m c (n + 1) hn = (k0_pay3 (outsAt0 m c n (Nat.lt_of_succ_lt hn)).2 (X0_2 m c ⟨n + 1, hn⟩) (X0_3 m c ⟨n + 1, hn⟩)
        (outsAt0 m c n (Nat.lt_of_succ_lt hn)).1 (X0_4 m c ⟨n + 1, hn⟩), (outsAt0 m c n (Nat.lt_of_succ_lt hn)).2) := e
  rw [e', hr]
  refine ⟨?_, (ih r k).2⟩
  dsimp only
  rw [pay3_at, (ih r k).1, hs]
  unfold upTo
  exact slab (rowX m c (rowOf ⟨n, Nat.lt_of_succ_lt hn⟩ r) k) (term (norm (rowX m c (rowOf ⟨n, Nat.lt_of_succ_lt hn⟩ r)) (gain m c)) (wG m c) (wU m c) (wD m c) k) _ _
    fun f : Fin 512 => slab_term m c ⟨n + 1, hn⟩ (fun j => (outsAt0 m c n (Nat.lt_of_succ_lt hn)).2 (ix2 r j)) _ (fun j => (ih r j).2) k f _ rfl h.2

/-- Every slab's short of the last. -/
theorem held : ∀ (n : ℕ) (hn : n < cfg0.N), n % 11 ≤ 9 → Held m c n hn
  | 0, hn, _ => held_A m c ⟨0, hn⟩ rfl
  | n + 1, hn, h => by
    by_cases h0 : (n + 1) % 11 = 0
    · exact held_A m c ⟨n + 1, hn⟩ h0
    · exact held_B m c n hn ⟨by omega, h⟩ (held n (Nat.lt_of_succ_lt hn) (by omega))

/-- The layer's half-step feed-forward of a row. -/
def result : Vec Ideal S32768x2048 .f32 := fun z =>
  ffn (rowX m c (z 0)) (gain m c) (wG m c) (wU m c) (wD m c) (z 1)

/-- The tail slab over the row. -/
theorem tail_at (n : ℕ) (hn : n + 1 < cfg0.N) (h : (n + 1) % 11 = 10) (r : Fin 512) (k : Fin 2048) :
    k0_pay4 (outsAt0 m c n (Nat.lt_of_succ_lt hn)).2 (iblk m c 5 ⟨n + 1, hn⟩) (iblk m c 6 ⟨n + 1, hn⟩)
        (outsAt0 m c n (Nat.lt_of_succ_lt hn)).1 (iblk m c 7 ⟨n + 1, hn⟩) (ix2 r k)
      = ffn (rowX m c (rowOf ⟨n + 1, hn⟩ r)) (gain m c) (wG m c) (wU m c) (wD m c) k := by
  have hr : rowOf ⟨n + 1, hn⟩ r = rowOf ⟨n, Nat.lt_of_succ_lt hn⟩ r := Fin.ext (by show 512 * ((n + 1) / 11) + r.val = 512 * (n / 11) + r.val; omega)
  have ih := held m c n (Nat.lt_of_succ_lt hn) (by omega)
  have hs : 512 * (n % 11) + 512 = 5120 := by omega
  rw [pay4_at, (ih r k).1, hr, hs, ← upTo_all]
  unfold upTo
  refine slab (rowX m c (rowOf ⟨n, Nat.lt_of_succ_lt hn⟩ r) k) (term (norm (rowX m c (rowOf ⟨n, Nat.lt_of_succ_lt hn⟩ r)) (gain m c)) (wG m c) (wU m c) (wD m c) k) 5120 _
    fun f : Fin 384 => ?_
  have hlt : 5120 + f.val < 5504 := by omega
  unfold term
  rw [dif_pos hlt]
  exact congrArg₂ (· * ·) (gated_congr _ _ _ _ _ _ _ _ (fun j => (ih r j).2) (fun j => blk5 m c ⟨n + 1, hn⟩ j f) (fun j => blk6 m c ⟨n + 1, hn⟩ j f)) (blk7 m c ⟨n + 1, hn⟩ f k)

/-- What the last slab's grid point leaves. -/
theorem last_at (n : ℕ) (hn : n + 1 < cfg0.N) (h : (n + 1) % 11 = 10) (r : Fin 512) (k : Fin 2048) :
    (outsAt0 m c (n + 1) hn).1 (ix2 r k) = result m c (ix2 (rowOf ⟨n + 1, hn⟩ r) k) := by
  have e : (outsAt0 m c (n + 1) hn).1 = k0_pay4 (outsAt0 m c n (Nat.lt_of_succ_lt hn)).2 (iblk m c 5 ⟨n + 1, hn⟩) (iblk m c 6 ⟨n + 1, hn⟩)
        (outsAt0 m c n (Nat.lt_of_succ_lt hn)).1 (iblk m c 7 ⟨n + 1, hn⟩) := outs_C m c ⟨n + 1, hn⟩ h
  rw [e]
  exact tail_at m c n hn h r k

theorem blk_out (t : Fin cfg0.N) (h : t.val % 11 = 10) (y : S512x2048.Idx) :
    (outsAt0 m c t.val t.isLt).1 y = result m c ((win0_8.blk t).view.emb y) := by
  have hp := (places t).2.2.2.2.2.2.2.2
  have p0 : ((win0_8.blk t).view.emb y 0).val = 512 * (t.val / 11) + (y 0).val := by blk_simp [hp]; omega
  have p1 : ((win0_8.blk t).view.emb y 1).val = (y 1).val := by blk_simp [hp]
  obtain ⟨n, hn⟩ := t
  cases n with
  | zero => exact absurd (show 0 % 11 = 10 from h) (by decide)
  | succ n =>
    have hy : y = ix2 (n0 := 512) (n1 := 2048) (y 0) (y 1) := by
      funext a
      fin_cases a <;> rfl
    refine (congrArg (outsAt0 m c (n + 1) hn).1 hy).trans ((last_at m c n hn h (y 0) (y 1)).trans (congrArg (result m c) ?_))
    funext a
    fin_cases a
    · exact Fin.ext p0.symm
    · exact Fin.ext p1.symm

/-- The array of the result after the run. -/
theorem arr_eq : (dats m 0 c).arrAt 8 cfg0.N = result m c := by
  refine (dats m 0 c).arrAt_eq_of_covers 8 _ (by decide +kernel) fun t hf y => ?_
  blk_simp
  rw [after0_8]
  exact blk_out m c t ((flush0_8 t).mp hf) y

end Cert.Kernel3Ideal.Ffn
-- ==== Proof.FfnRef3.lean ====
module

public import proofs.«01_k».proof.Proof.Gen.Reference3Ideal.Read
public import proofs.«01_k».proof.Proof.FfnMath
public import Idealize.ShloMosaic.Lib.Pointwise
public import Idealize.ShloMosaic.Lib.Tactic.CleanTypes

/-! The reference of the feed-forward, read at an index. -/

@[expose] public section

set_option maxRecDepth 16384

noncomputable section

namespace Cert.Reference3Ideal.Ffn

open Idealize.ShloMosaic Idealize.ShloMosaic.TcCoe
open Cert.Reference3Ideal Cert.Reference3Ideal.Gen Cert.Reference3Ideal.Read Cert.Ffn

variable (x0 : Vec Ideal S32768x2048 .f32) (x1 : Vec Ideal S2048 .f32) (x2 x3 : Vec Ideal S2048x5504 .f32) (x4 : Vec Ideal S5504x2048 .f32)
variable (r : Fin 32768)

/-- The norm before. -/
theorem v12_at (k : Fin 2048) :
    val_main_v12 (F := Ideal) x0 x1 (ix2 r k) = norm (fun k => x0 (ix2 r k)) (fun k => x1 (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The hidden features. -/
theorem v16_at (f : Fin 5504) :
    val_main_v16 (F := Ideal) x0 x1 x2 x3 (ix2 r f)
      = gated (norm (fun k => x0 (ix2 r k)) (fun k => x1 (ix1 k))) (fun k f => x2 (ix2 k f)) (fun k f => x3 (ix2 k f)) f := by
  have h := fun k => v12_at x0 x1 r k
  revert h
  unfold val_main_v16 val_main_v15 val_main_v14 val_main_call0_v5 val_main_call0_v3 val_main_call0_v1 val_main_call0_v0 val_main_v13
  generalize val_main_v12 (F := Ideal) x0 x1 = X
  intro h
  pointwise [val_main_call0_v4, val_main_call0_v2, val_main_call0_cst, val_main_call0_cst_0]
  simp only [h]
  rfl

/-- The half step. -/
theorem v20_at (k : Fin 2048) :
    val_main_v20 (F := Ideal) x0 x1 x2 x3 x4 (ix2 r k)
      = ffn (fun k => x0 (ix2 r k)) (fun k => x1 (ix1 k)) (fun k f => x2 (ix2 k f)) (fun k f => x3 (ix2 k f)) (fun f k => x4 (ix2 f k)) k := by
  have h := fun f => v16_at x0 x1 x2 x3 r f
  revert h
  unfold val_main_v20 val_main_v19 val_main_v17
  generalize val_main_v16 (F := Ideal) x0 x1 x2 x3 = X
  intro h
  pointwise [val_main_v18, val_main_cst_2]
  simp only [h]
  rfl

/-- The result at any index. -/
theorem v20_all (z : S32768x2048.Idx) :
    val_main_v20 (F := Ideal) x0 x1 x2 x3 x4 z
      = ffn (fun k => x0 (ix2 (z 0) k)) (fun k => x1 (ix1 k)) (fun k f => x2 (ix2 k f)) (fun k f => x3 (ix2 k f)) (fun f k => x4 (ix2 f k)) (z 1) := by
  have hz : z = ix2 (n0 := 32768) (n1 := 2048) (z 0) (z 1) := by
    funext a
    fin_cases a <;> rfl
  exact (congrArg (val_main_v20 (F := Ideal) x0 x1 x2 x3 x4) hz).trans (v20_at x0 x1 x2 x3 x4 (z 0) (z 1))

end Cert.Reference3Ideal.Ffn
-- ==== Proof.PrjMath.lean ====
module

public import Idealize.ShloMosaic.PureOps.Ideal.Laws

/-! The output projection of one row over the extended reals, and its sum taken in two parts. -/

@[expose] public section

noncomputable section

namespace Cert.Prj

open Idealize.ShloMosaic

/-- The number of the attention's features. -/
abbrev width : EReal := Ideal.ofBits .f32 0x44C00000#32
/-- The norm's small addend. -/
abbrev eps : EReal := Ideal.ofBits .f32 0x358637BD#32

/-- The root-mean-square norm of the attention's row, times its gains. -/
def norm (x g : Fin 1536 → EReal) (k : Fin 1536) : EReal :=
  x k * Ideal.rsqrt (Ideal.div (∑ j, x j * x j) width + eps) * g k

/-- The stream's row, plus the two mixers' rows, one after the other, through the projection. -/
def proj (u : Fin 512 → EReal) (a g : Fin 1536 → EReal) (x : Fin 2048 → EReal) (w : Fin 2048 → Fin 2048 → EReal) (k : Fin 2048) : EReal :=
  x k + ((∑ j : Fin 512, u j * w ⟨j.val, by omega⟩ k) + ∑ j : Fin 1536, norm a g j * w ⟨512 + j.val, by omega⟩ k)

/-- A sum over the joined features, part by part. -/
theorem sum_parts (f : Fin 2048 → EReal) (p : Fin 512 → EReal) (q : Fin 1536 → EReal)
    (hp : ∀ j : Fin 512, f ⟨j.val, by omega⟩ = p j) (hq : ∀ j : Fin 1536, f ⟨512 + j.val, by omega⟩ = q j) :
    ∑ j, f j = (∑ j, p j) + ∑ j, q j := by
  rw [← Finset.sum_congr rfl fun j _ => hp j, ← Finset.sum_congr rfl fun j _ => hq j]
  exact Fin.sum_univ_add (a := 512) (b := 1536) f

end Cert.Prj
-- ==== Proof.Prj.lean ====
module

public import proofs.«01_k».proof.Proof.Gen.Kernel4Ideal.Value
public import proofs.«01_k».proof.Proof.PrjMath
public import Idealize.ShloMosaic.Lib.Pipeline.ValueKit.Acc
public import Idealize.ShloMosaic.Lib.Pipeline.ValueKit.Point
public import Idealize.ShloMosaic.Lib.StableHlo.ReadAt
public import Idealize.ShloMosaic.Lib.Pointwise

/-! The idealized output projection's array after its run. -/

@[expose] public section

set_option maxRecDepth 16384

noncomputable section

namespace Cert.Kernel4Ideal.Prj

open Idealize.ShloMosaic Idealize.ShloMosaic.TcCoe
open Cert.Kernel4Ideal Cert.Kernel4Ideal.Gen Cert.Prj
open Idealize.ShloMosaic.Pipeline (Dat)

variable (m : (ℓ : Loc nD τ sig) → Buf (Elt Ideal) ℓ) (c : Dev nD)

abbrev A0 : Vec Ideal S32768x512 .bf16 := m ((c : Thread nD τ).loc main_arg0)
abbrev A1 : Vec Ideal S32768x1536 .f32 := m ((c : Thread nD τ).loc main_arg1)
abbrev A2 : Vec Ideal S32768x2048 .f32 := m ((c : Thread nD τ).loc main_arg2)
abbrev A3 : Vec Ideal S1536 .f32 := m ((c : Thread nD τ).loc main_arg3)
abbrev A4 : Vec Ideal S2048x2048 .f32 := m ((c : Thread nD τ).loc main_arg4)

/-- What a grid point leaves, as the payload of its store. -/
theorem out_eq (x0 : Vec Ideal S512x512 .bf16) (x1 : Vec Ideal S512x1536 .f32) (x2 : Vec Ideal S512x2048 .f32) (x3 : Vec Ideal S1x1536 .f32)
    (x4 : Vec Ideal S512x2048 .bf16) (x5 : Vec Ideal S1536x2048 .bf16) : out0_6 x0 x1 x2 x3 x4 x5 = k0_pay1 x1 x3 x0 x4 x5 x2 := by
  frame_out

/-- The payload at an index. -/
theorem pay1_at (x1 : Vec Ideal S512x1536 .f32) (x3 : Vec Ideal S1x1536 .f32) (x0 : Vec Ideal S512x512 .bf16)
    (x4 : Vec Ideal S512x2048 .bf16) (x5 : Vec Ideal S1536x2048 .bf16) (x2 : Vec Ideal S512x2048 .f32) (i : Fin 512) (k : Fin 2048) :
    k0_pay1 x1 x3 x0 x4 x5 x2 (ix2 i k) = x2 (ix2 i k) + ((∑ j : Fin 512, x0 (ix2 i j) * x4 (ix2 j k))
      + ∑ j : Fin 1536, norm (fun j => x1 (ix2 i j)) (fun j => x3 (ix2 0 j)) j * x5 (ix2 j k)) := by
  pointwise [k0_pay1]
  rfl

theorem arg0_at (r : Fin 32768) (k : Fin 512) : (V m c main_arg0 : Vec Ideal S32768x512 .bf16) (ix2 r k) = A0 m c (ix2 r k) := by
  unfold V
  after_reads_at

theorem arg1_at (r : Fin 32768) (k : Fin 1536) : (V m c main_arg1 : Vec Ideal S32768x1536 .f32) (ix2 r k) = A1 m c (ix2 r k) := by
  unfold V
  after_reads_at

theorem arg2_at (r : Fin 32768) (k : Fin 2048) : (V m c main_arg2 : Vec Ideal S32768x2048 .f32) (ix2 r k) = A2 m c (ix2 r k) := by
  unfold V
  after_reads_at

theorem v4_at (k : Fin 1536) : (V m c main_v4 : Vec Ideal S1x1536 .f32) (ix2 0 k) = A3 m c (ix1 k) := by
  unfold V
  after_reads_at

theorem v1_at (j : Fin 512) (k : Fin 2048) : (V m c main_v1 : Vec Ideal S512x2048 .bf16) (ix2 j k) = A4 m c (ix2 ⟨j.val, by omega⟩ k) := by
  unfold V
  after_reads_at

theorem v3_at (j : Fin 1536) (k : Fin 2048) : (V m c main_v3 : Vec Ideal S1536x2048 .bf16) (ix2 j k) = A4 m c (ix2 ⟨512 + j.val, by omega⟩ k) := by
  unfold V
  after_reads_at

/-- Where each window's block lies. -/
theorem places : ∀ t : Fin cfg0.N,
    win0_0.index t = ![t.val, 0] ∧
    win0_1.index t = ![t.val, 0] ∧
    win0_2.index t = ![t.val, 0] ∧
    win0_3.index t = ![0, 0] ∧
    win0_4.index t = ![0, 0] ∧
    win0_5.index t = ![0, 0] ∧
    win0_6.index t = ![t.val, 0] :=
  (by decide +kernel : ∀ t : Fin grid0.N, _)

theorem row_lt (t : Fin cfg0.N) (r : Fin 512) : 512 * t.val + r.val < 32768 := by
  have := lt_of_lt_of_eq t.isLt (show cfg0.N = 64 from N_0)
  omega

/-- The row of the arrays of a grid point's row. -/
abbrev rowOf (t : Fin cfg0.N) (r : Fin 512) : Fin 32768 := ⟨512 * t.val + r.val, row_lt t r⟩

theorem blk0 (t : Fin cfg0.N) (r : Fin 512) (k : Fin 512) :
    (iblk m c 0 t : Vec Ideal S512x512 .bf16) (ix2 r k) = A0 m c (ix2 (rowOf t r) k) := by
  refine Eq.trans ?_ (arg0_at m c _ _)
  have h := (places t).1
  blk_ext [iblk, h]

theorem blk1 (t : Fin cfg0.N) (r : Fin 512) (k : Fin 1536) :
    (iblk m c 1 t : Vec Ideal S512x1536 .f32) (ix2 r k) = A1 m c (ix2 (rowOf t r) k) := by
  refine Eq.trans ?_ (arg1_at m c _ _)
  have h := (places t).2.1
  blk_ext [iblk, h]

theorem blk2 (t : Fin cfg0.N) (r : Fin 512) (k : Fin 2048) :
    (iblk m c 2 t : Vec Ideal S512x2048 .f32) (ix2 r k) = A2 m c (ix2 (rowOf t r) k) := by
  refine Eq.trans ?_ (arg2_at m c _ _)
  have h := (places t).2.2.1
  blk_ext [iblk, h]

theorem blk3 (t : Fin cfg0.N) (k : Fin 1536) :
    (iblk m c 3 t : Vec Ideal S1x1536 .f32) (ix2 0 k) = A3 m c (ix1 k) := by
  refine Eq.trans ?_ (v4_at m c _)
  have h := (places t).2.2.2.1
  blk_ext [iblk, h]

theorem blk4 (t : Fin cfg0.N) (j : Fin 512) (k : Fin 2048) :
    (iblk m c 4 t : Vec Ideal S512x2048 .bf16) (ix2 j k) = A4 m c (ix2 ⟨j.val, by omega⟩ k) := by
  refine Eq.trans ?_ (v1_at m c _ _)
  have h := (places t).2.2.2.2.1
  blk_ext [iblk, h]

theorem blk5 (t : Fin cfg0.N) (j : Fin 1536) (k : Fin 2048) :
    (iblk m c 5 t : Vec Ideal S1536x2048 .bf16) (ix2 j k) = A4 m c (ix2 ⟨512 + j.val, by omega⟩ k) := by
  refine Eq.trans ?_ (v3_at m c _ _)
  have h := (places t).2.2.2.2.2.1
  blk_ext [iblk, h]

/-- The output projection, row by row. -/
def result : Vec Ideal S32768x2048 .f32 := fun z =>
  proj (fun k => A0 m c (ix2 (z 0) k)) (fun k => A1 m c (ix2 (z 0) k)) (fun k => A3 m c (ix1 k)) (fun k => A2 m c (ix2 (z 0) k))
    (fun j k => A4 m c (ix2 j k)) (z 1)

theorem out_at (t : Fin cfg0.N) (r : Fin 512) (k : Fin 2048) :
    out0_6 (iblk m c 0 t) (iblk m c 1 t) (iblk m c 2 t) (iblk m c 3 t) (iblk m c 4 t) (iblk m c 5 t) (ix2 r k)
      = result m c (ix2 (rowOf t r) k) := by
  rw [out_eq, pay1_at]
  unfold result proj
  refine congrArg₂ (· + ·) (blk2 m c t r k) (congrArg₂ (· + ·) (Finset.sum_congr rfl fun j _ => congrArg₂ (· * ·) (blk0 m c t r j) (blk4 m c t j k))
    (Finset.sum_congr rfl fun j _ => congrArg₂ (· * ·) ?_ (blk5 m c t j k)))
  exact congrArg₂ (fun x g => norm x g j) (funext fun j => blk1 m c t r j) (funext fun j => blk3 m c t j)

theorem blk_out (t : Fin cfg0.N) (y : S512x2048.Idx) :
    out0_6 (iblk m c 0 t) (iblk m c 1 t) (iblk m c 2 t) (iblk m c 3 t) (iblk m c 4 t) (iblk m c 5 t) y = result m c ((win0_6.blk t).view.emb y) := by
  have hp := (places t).2.2.2.2.2.2
  have p0 : ((win0_6.blk t).view.emb y 0).val = 512 * t.val + (y 0).val := by blk_simp [hp]; omega
  have p1 : ((win0_6.blk t).view.emb y 1).val = (y 1).val := by blk_simp [hp]
  have hy : y = ix2 (n0 := 512) (n1 := 2048) (y 0) (y 1) := by
    funext a
    fin_cases a <;> rfl
  refine (congrArg _ hy).trans ((out_at m c t (y 0) (y 1)).trans (congrArg (result m c) ?_))
  funext a
  fin_cases a
  · exact Fin.ext p0.symm
  · exact Fin.ext p1.symm

/-- The array of the result after the run. -/
theorem arr_eq : (dats m 0 c).arrAt 6 cfg0.N = result m c := by
  refine (dats m 0 c).arrAt_eq_of_covers 6 _ (by decide +kernel) fun t hf y => ?_
  blk_simp
  rw [after0_6]
  exact blk_out m c t y

end Cert.Kernel4Ideal.Prj
-- ==== Proof.PrjRef.lean ====
module

public import proofs.«01_k».proof.Proof.Gen.Reference4Ideal.Read
public import proofs.«01_k».proof.Proof.PrjMath
public import Idealize.ShloMosaic.Lib.Pointwise
public import Idealize.ShloMosaic.Lib.Tactic.CleanTypes

/-! The reference of the output projection, read at an index. -/

@[expose] public section

set_option maxRecDepth 16384

noncomputable section

namespace Cert.Reference4Ideal.Prj

open Idealize.ShloMosaic Idealize.ShloMosaic.TcCoe
open Cert.Reference4Ideal Cert.Reference4Ideal.Gen Cert.Reference4Ideal.Read Cert.Prj

variable (x0 : Vec Ideal S32768x512 .bf16) (x1 : Vec Ideal S32768x1536 .f32) (x2 : Vec Ideal S32768x2048 .f32) (x3 : Vec Ideal S1536 .f32) (x4 : Vec Ideal S2048x2048 .f32)
variable (r : Fin 32768)

/-- The attention's norm. -/
theorem v13_at (k : Fin 1536) :
    val_main_v13 (F := Ideal) x1 x3 (ix2 r k) = norm (fun k => x1 (ix2 r k)) (fun k => x3 (ix1 k)) k := by
  pointwise [val_main_v13, val_main_v12, val_main_v11, val_main_v10, val_main_v9, val_main_v8, val_main_v7, val_main_v6, val_main_v5, val_main_v4, val_main_v3, val_main_v2, val_main_v1, val_main_cst, val_main_cst_0, val_main_cst_1]
  rfl

/-- The joined features of the first part. -/
theorem v14_fst (j : Fin 512) : val_main_v14 (F := Ideal) x0 x1 x3 (ix2 r ⟨j.val, by omega⟩) = x0 (ix2 r j) := by
  unfold val_main_v14
  generalize val_main_v13 (F := Ideal) x1 x3 = X
  pointwise [val_main_v0]

/-- The joined features of the second part. -/
theorem v14_snd (j : Fin 1536) : val_main_v14 (F := Ideal) x0 x1 x3 (ix2 r ⟨512 + j.val, by omega⟩) = norm (fun k => x1 (ix2 r k)) (fun k => x3 (ix1 k)) j := by
  refine Eq.trans ?_ (v13_at x1 x3 r j)
  unfold val_main_v14
  generalize val_main_v13 (F := Ideal) x1 x3 = X
  pointwise [val_main_v0]

/-- The result. -/
theorem v16_at (k : Fin 2048) :
    val_main_v16 (F := Ideal) x0 x1 x2 x3 x4 (ix2 r k)
      = proj (fun k => x0 (ix2 r k)) (fun k => x1 (ix2 r k)) (fun k => x3 (ix1 k)) (fun k => x2 (ix2 r k)) (fun j k => x4 (ix2 j k)) k := by
  have h1 := fun j => v14_fst x0 x1 x3 r j
  have h2 := fun j => v14_snd x0 x1 x3 r j
  revert h1 h2
  unfold val_main_v16 val_main_v15
  generalize val_main_v14 (F := Ideal) x0 x1 x3 = X
  intro h1 h2
  pointwise
  refine congrArg (fun s => x2 (ix2 r k) + s) (sum_parts _ _ _ (fun j => ?_) fun j => ?_)
  · exact congrArg (· * _) (h1 j)
  · exact congrArg (· * _) (h2 j)

/-- The result at any index. -/
theorem v16_all (z : S32768x2048.Idx) :
    val_main_v16 (F := Ideal) x0 x1 x2 x3 x4 z
      = proj (fun k => x0 (ix2 (z 0) k)) (fun k => x1 (ix2 (z 0) k)) (fun k => x3 (ix1 k)) (fun k => x2 (ix2 (z 0) k)) (fun j k => x4 (ix2 j k)) (z 1) := by
  have hz : z = ix2 (n0 := 32768) (n1 := 2048) (z 0) (z 1) := by
    funext a
    fin_cases a <;> rfl
  exact (congrArg (val_main_v16 (F := Ideal) x0 x1 x2 x3 x4) hz).trans (v16_at x0 x1 x2 x3 x4 (z 0) (z 1))

end Cert.Reference4Ideal.Prj
-- ==== Proof.lean ====
/- The proof of the certificate's claims, for the attention call, the two feed-forward calls and the
   output projection: the frames of the kernel,
   of its idealization and of the reference, that the idealization rewrites nothing but the three named constants, and
   that the idealized kernel and the reference compute equal results. -/
module

public import proofs.«01_k».proof.Defs
public import proofs.«01_k».proof.Proof.Gen.Kernel.Frame
public import proofs.«01_k».proof.Proof.AttFrame
public import proofs.«01_k».proof.Proof.AttBlocks
public import proofs.«01_k».proof.Proof.AttFin
public import proofs.«01_k».proof.Proof.AttRef
public import proofs.«01_k».proof.Proof.Gen.ReferenceIdeal.Run
public import proofs.«01_k».proof.Proof.Gen.ReferenceIdeal.Read
public import proofs.«01_k».proof.Proof.Gen.Kernel2.Frame
public import proofs.«01_k».proof.Proof.FfnOut2
public import proofs.«01_k».proof.Proof.FfnRef2
public import proofs.«01_k».proof.Proof.Gen.Kernel3.Frame
public import proofs.«01_k».proof.Proof.FfnOut3
public import proofs.«01_k».proof.Proof.FfnRef3
public import proofs.«01_k».proof.Proof.Gen.Kernel4.Frame
public import proofs.«01_k».proof.Proof.Gen.Kernel4Ideal.Value
public import proofs.«01_k».proof.Proof.Prj
public import proofs.«01_k».proof.Proof.PrjRef
public import proofs.«01_k».proof.Proof.Gen.Reference4Ideal.Run
public import proofs.«01_k».proof.Proof.Gen.Reference4Ideal.Read
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The reference runs, and leaves its arguments as they were. -/
theorem reference_frame : Cert.quiescent_ReferenceIdeal (hReferenceIdeal := Cert.ReferenceIdeal.Gen.facts) :=
  fun m ρ _ => (θ_run _ _ _).mono (fun r h => ⟨fun c => (h c).2, sem_eq_zero_of_no_sems rfl r.2⟩) (Cert.ReferenceIdeal.Value.run m ρ)

/-- The idealized kernel and the reference end with equal results. -/
theorem attention_value : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Att.result m c, ?_, ?_⟩
  · exact (θ_run _ _ _).mono (fun r h c => ⟨(h c).1.trans (Cert.KernelIdeal.Att.arr_eq m c), (h c).2⟩) (Cert.KernelIdeal.Blocks.run_blocks m g)
  · refine (θ_run _ _ _).mono (fun r h c => ⟨(h c).1.trans ?_, (h c).2⟩) (Cert.ReferenceIdeal.Value.run m' g')
    obtain ⟨h0, h1, h2, h3, h4, h5, h6, h7⟩ := hargs c
    rw [Cert.ReferenceIdeal.Read.val_main_v79_eq, h0, h1, h2, h3, h4, h5, h6, h7]
    funext z
    exact Cert.ReferenceIdeal.Att.v79_all _ _ _ _ _ _ _ _ z

/-- The reference of the feed-forward with the final norm runs, and leaves its arguments as they were. -/
theorem reference2_frame : Cert.quiescent_Reference2Ideal (hReference2Ideal := Cert.Reference2Ideal.Gen.facts) :=
  fun m ρ _ => (θ_run _ _ _).mono (fun r h => ⟨fun c => (h c).2, sem_eq_zero_of_no_sems rfl r.2⟩) (Cert.Reference2Ideal.Value.run m ρ)

/-- The feed-forward with the final norm: the idealized kernel and the reference end with equal results. -/
theorem ffn2_value : Cert.algebraic_Kernel2Ideal_Reference2Ideal (hKernel2Ideal := Cert.Kernel2Ideal.Gen.facts) (hReference2Ideal := Cert.Reference2Ideal.Gen.facts) := by
  intro m g m' g' _ hargs
  refine ⟨fun c => Cert.Kernel2Ideal.Ffn.result m c, ?_, ?_⟩
  · exact (θ_run _ _ _).mono (fun r h c => ⟨(h c).1.trans (Cert.Kernel2Ideal.Ffn.arr_eq m c), (h c).2⟩) (Cert.Kernel2Ideal.Value.run_blocks m g)
  · refine (θ_run _ _ _).mono (fun r h c => ⟨(h c).1.trans ?_, (h c).2⟩) (Cert.Reference2Ideal.Value.run m' g')
    obtain ⟨h0, h1, h2, h3, h4, h5⟩ := hargs c
    rw [Cert.Reference2Ideal.Read.val_main_v33_eq, h0, h1, h2, h3, h4, h5]
    funext z
    exact Cert.Reference2Ideal.Ffn.v33_all _ _ _ _ _ _ z

/-- The reference of the first feed-forward runs, and leaves its arguments as they were. -/
theorem reference3_frame : Cert.quiescent_Reference3Ideal (hReference3Ideal := Cert.Reference3Ideal.Gen.facts) :=
  fun m ρ _ => (θ_run _ _ _).mono (fun r h => ⟨fun c => (h c).2, sem_eq_zero_of_no_sems rfl r.2⟩) (Cert.Reference3Ideal.Value.run m ρ)

/-- The first feed-forward: the idealized kernel and the reference end with equal results. -/
theorem ffn3_value : Cert.algebraic_Kernel3Ideal_Reference3Ideal (hKernel3Ideal := Cert.Kernel3Ideal.Gen.facts) (hReference3Ideal := Cert.Reference3Ideal.Gen.facts) := by
  intro m g m' g' _ hargs
  refine ⟨fun c => Cert.Kernel3Ideal.Ffn.result m c, ?_, ?_⟩
  · exact (θ_run _ _ _).mono (fun r h c => ⟨(h c).1.trans (Cert.Kernel3Ideal.Ffn.arr_eq m c), (h c).2⟩) (Cert.Kernel3Ideal.Value.run_blocks m g)
  · refine (θ_run _ _ _).mono (fun r h c => ⟨(h c).1.trans ?_, (h c).2⟩) (Cert.Reference3Ideal.Value.run m' g')
    obtain ⟨h0, h1, h2, h3, h4⟩ := hargs c
    rw [Cert.Reference3Ideal.Read.val_main_v20_eq, h0, h1, h2, h3, h4]
    funext z
    exact Cert.Reference3Ideal.Ffn.v20_all _ _ _ _ _ z

/-- The reference of the output projection runs, and leaves its arguments as they were. -/
theorem reference4_frame : Cert.quiescent_Reference4Ideal (hReference4Ideal := Cert.Reference4Ideal.Gen.facts) :=
  fun m ρ _ => (θ_run _ _ _).mono (fun r h => ⟨fun c => (h c).2, sem_eq_zero_of_no_sems rfl r.2⟩) (Cert.Reference4Ideal.Value.run m ρ)

/-- The output projection: the idealized kernel and the reference end with equal results. -/
theorem proj_value : Cert.algebraic_Kernel4Ideal_Reference4Ideal (hKernel4Ideal := Cert.Kernel4Ideal.Gen.facts) (hReference4Ideal := Cert.Reference4Ideal.Gen.facts) := by
  intro m g m' g' _ hargs
  refine ⟨fun c => Cert.Kernel4Ideal.Prj.result m c, ?_, ?_⟩
  · exact (θ_run _ _ _).mono (fun r h c => ⟨(h c).1.trans (Cert.Kernel4Ideal.Prj.arr_eq m c), (h c).2⟩) (Cert.Kernel4Ideal.Value.run_blocks m g)
  · refine (θ_run _ _ _).mono (fun r h c => ⟨(h c).1.trans ?_, (h c).2⟩) (Cert.Reference4Ideal.Value.run m' g')
    obtain ⟨h0, h1, h2, h3, h4⟩ := hargs c
    rw [Cert.Reference4Ideal.Read.val_main_v16_eq, h0, h1, h2, h3, h4]
    funext z
    exact Cert.Reference4Ideal.Prj.v16_all _ _ _ _ _ z

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    fun m ρ _ => Cert.Kernel.Gen.frame m ρ, fun m ρ _ => Cert.KernelIdeal.Gen.frame m ρ,
    reference_frame,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    ⟨IdealRules.named_const.statement Cert.KernelIdeal.κ "scale_log2e" .f32 0x3E0293EE#32 (((11863283 / 134217728) * (Real.log 2)⁻¹ : ℝ) : EReal) rfl,
      IdealRules.named_const.statement Cert.KernelIdeal.κ "unselected" .f32 0xF1800000#32 ⊥ rfl,
      IdealRules.named_const.statement Cert.KernelIdeal.κ "mask" .f32 0xF149F2CA#32 ⊥ rfl⟩,
    attention_value, trivial, ffn2_value, trivial, ffn3_value, trivial, proj_value⟩

end Cert.Proof

end
